-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 2048]⟩ ⟨3, ![4, 512, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![512, 512]⟩ ⟨2, ![512, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x2048 : Shape := ⟨3, ![1, 512, 2048]⟩
abbrev S512x2048 : Shape := ⟨2, ![512, 2048]⟩
abbrev S512x512 : Shape := ⟨2, ![512, 512]⟩
abbrev S2x256x512 : Shape := ⟨3, ![2, 256, 512]⟩
abbrev S2x3x256x512 : Shape := ⟨4, ![2, 3, 256, 512]⟩
abbrev S2x3x2 : Shape := ⟨3, ![2, 3, 2]⟩
abbrev S_ : Shape := ⟨0, ![]⟩
abbrev S256x512 : Shape := ⟨2, ![256, 512]⟩
abbrev S1x256x512 : Shape := ⟨3, ![1, 256, 512]⟩
abbrev S1x1x1 : Shape := ⟨3, ![1, 1, 1]⟩
abbrev S1x1x128x512 : Shape := ⟨4, ![1, 1, 128, 512]⟩
abbrev S128x512 : Shape := ⟨2, ![128, 512]⟩
abbrev S1x128x512 : Shape := ⟨3, ![1, 128, 512]⟩

abbrev nBuf : Space → Nat
  | .hbm => 3
  | .vmem => 4
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S512x512, .f32⟩
  | .local _ .vmem, ⟨0, _⟩ => ⟨S512x2048, .f32⟩
  | .local _ .vmem, ⟨1, _⟩ => ⟨S512x512, .f32⟩
  | .local _ .vmem, ⟨2, _⟩ => ⟨S2x256x512, .f32⟩
  | .local _ .vmem, ⟨3, _⟩ => ⟨S2x3x256x512, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 32 := Scalar.addi v2 c3_i32
  let c4_i32_10 : BitVec 32 := 4#32
  let v14 : BitVec 32 := Scalar.remsi v13 c4_i32_10
  let c512_i32 : BitVec 32 := 512#32
  let v15 : BitVec 32 := Scalar.muli v14 c512_i32
  let v16 : Index := Scalar.indexCast v15
  ![0, v16.toNat]
def k0_off2 (d0 : Dev nD) : Fin 2 → Nat :=
  let c256 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v22 : BitVec 32 := Scalar.addi v2 c1_i32_14
  let c4_i32_15 : BitVec 32 := 4#32
  let v23 : BitVec 32 := Scalar.remsi v22 c4_i32_15
  let c512_i32_16 : BitVec 32 := 512#32
  let v24 : BitVec 32 := Scalar.muli v23 c512_i32_16
  let v25 : Index := Scalar.indexCast v24
  ![256, v25.toNat]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_28 : BitVec 32 := 1#32
  let v31 : BitVec 32 := Scalar.muli v7 c1_i32_28
  let v32 : BitVec 32 := Scalar.addi c0_i32_29 v31
  v32.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_43 : BitVec 32 := 1#32
  let v41 : BitVec 32 := Scalar.muli v5 c1_i32_43
  let v42 : BitVec 32 := Scalar.addi c0_i32_44 v41
  v42.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_58 : BitVec 32 := 1#32
  let v51 : BitVec 32 := Scalar.muli v7 c1_i32_58
  let v52 : BitVec 32 := Scalar.addi c0_i32_59 v51
  v52.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_72 : BitVec 32 := 1#32
  let v61 : BitVec 32 := Scalar.muli v5 c1_i32_72
  let v62 : BitVec 32 := Scalar.addi c0_i32_73 v61
  v62.toNat
def k0_off3 (d0 : Dev nD) (c6_i32 : BitVec 32) : Fin 2 → Nat :=
  let c0_95 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v79 : BitVec 32 := Scalar.addi v2 c6_i32
  let c4_i32_93 : BitVec 32 := 4#32
  let v80 : BitVec 32 := Scalar.remsi v79 c4_i32_93
  let c512_i32_94 : BitVec 32 := 512#32
  let v81 : BitVec 32 := Scalar.muli v80 c512_i32_94
  let v82 : Index := Scalar.indexCast v81
  ![0, v82.toNat]
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_114 : BitVec 32 := 1#32
  let v91 : BitVec 32 := Scalar.muli v7 c1_i32_114
  let v92 : BitVec 32 := Scalar.addi c0_i32_115 v91
  v92.toNat
def k0_off4 (d0 : Dev nD) (c2_i32_135 : BitVec 32) : Fin 2 → Nat :=
  let c256_138 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v109 : BitVec 32 := Scalar.addi v2 c2_i32_135
  let c4_i32_136 : BitVec 32 := 4#32
  let v110 : BitVec 32 := Scalar.remsi v109 c4_i32_136
  let c512_i32_137 : BitVec 32 := 512#32
  let v111 : BitVec 32 := Scalar.muli v110 c512_i32_137
  let v112 : Index := Scalar.indexCast v111
  ![256, v112.toNat]
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_157 : BitVec 32 := 1#32
  let v121 : BitVec 32 := Scalar.muli v5 c1_i32_157
  let v122 : BitVec 32 := Scalar.addi c0_i32_158 v121
  v122.toNat
def k0_off5 (d0 : Dev nD) (c6_i32_178 : BitVec 32) : Fin 2 → Nat :=
  let c128 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : BitVec 32 := Scalar.addi v2 c6_i32_178
  let c4_i32_179 : BitVec 32 := 4#32
  let v140 : BitVec 32 := Scalar.remsi v139 c4_i32_179
  let c512_i32_180 : BitVec 32 := 512#32
  let v141 : BitVec 32 := Scalar.muli v140 c512_i32_180
  let v142 : Index := Scalar.indexCast v141
  ![128, v142.toNat]
def k0_dev9 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_199 : BitVec 32 := 1#32
  let v151 : BitVec 32 := Scalar.muli v7 c1_i32_199
  let v152 : BitVec 32 := Scalar.addi c0_i32_200 v151
  v152.toNat
def k0_off6 (d0 : Dev nD) (c2_i32_220 : BitVec 32) : Fin 2 → Nat :=
  let c384 : Index := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v169 : BitVec 32 := Scalar.addi v2 c2_i32_220
  let c4_i32_221 : BitVec 32 := 4#32
  let v170 : BitVec 32 := Scalar.remsi v169 c4_i32_221
  let c512_i32_222 : BitVec 32 := 512#32
  let v171 : BitVec 32 := Scalar.muli v170 c512_i32_222
  let v172 : Index := Scalar.indexCast v171
  ![384, v172.toNat]
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_241 : BitVec 32 := 1#32
  let v181 : BitVec 32 := Scalar.muli v5 c1_i32_241
  let v182 : BitVec 32 := Scalar.addi c0_i32_242 v181
  v182.toNat
def k0_dev11 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_284 : BitVec 32 := 1#32
  let v211 : BitVec 32 := Scalar.muli v7 c1_i32_284
  let v212 : BitVec 32 := Scalar.addi c0_i32_285 v211
  v212.toNat
def k0_dev12 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_328 : BitVec 32 := 1#32
  let v241 : BitVec 32 := Scalar.muli v5 c1_i32_328
  let v242 : BitVec 32 := Scalar.addi c0_i32_329 v241
  v242.toNat
def k0_dev13 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_372 : BitVec 32 := 1#32
  let v271 : BitVec 32 := Scalar.muli v7 c1_i32_372
  let v272 : BitVec 32 := Scalar.addi c0_i32_373 v271
  v272.toNat
def k0_dev14 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_416 : BitVec 32 := 1#32
  let v301 : BitVec 32 := Scalar.muli v5 c1_i32_416
  let v302 : BitVec 32 := Scalar.addi c0_i32_417 v301
  v302.toNat
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x512x2048 : Shape := ⟨3, ![4, 512, 2048]⟩
abbrev S_ : Shape := ⟨0, ![]⟩
abbrev S512x2048 : Shape := ⟨2, ![512, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S_, .f32⟩
  | .hbm, ⟨2, _⟩ => ⟨S512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ring.Pieces.lean ====
/-
# The ring, its transfers, and the pieces of memory they move

Four devices stand in a ring. A transfer is named by a direction (`0`: to the next device, `1`: to the
device before), a hop (`0`, `1`, `2`) and a half (`0`, `1`). This file names, for each transfer, the device
it goes to, the memory it reads and writes, and its two semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Tactic

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

set_option backward.proofsInPublic true in
/-- The device a direction's transfers go to. -/
def tgt (d : Fin 2) (c : Dev nD) : Dev nD := ⟨(c.val + (if d = 0 then 1 else 3)) % 4, Nat.mod_lt _ (by decide)⟩

set_option backward.proofsInPublic true in
/-- The device a direction's transfers come from. -/
def src (d : Fin 2) (c : Dev nD) : Dev nD := ⟨(c.val + (if d = 0 then 3 else 1)) % 4, Nat.mod_lt _ (by decide)⟩

/-- The device before the next one is the device itself, -/
theorem src_tgt (d : Fin 2) (c : Dev nD) : src d (tgt d c) = c := by revert d c; decide

/-- and the one after the previous one. -/
theorem tgt_src (d : Fin 2) (c : Dev nD) : tgt d (src d c) = c := by revert d c; decide

/-- A step to the right and one to the left lead back, -/
theorem tgt_swap (c : Dev nD) : tgt 1 (tgt 0 c) = c := by revert c; decide

/-- in the other order too. -/
theorem tgt_swap' (c : Dev nD) : tgt 0 (tgt 1 c) = c := by revert c; decide

/-- A direction's steps around the ring, as a permutation of the devices. -/
def ring (d : Fin 2) : Dev nD ≃ Dev nD := ⟨tgt d, src d, src_tgt d, tgt_src d⟩

/-! ## Transfers -/

/-- A transfer: direction, hop, half. -/
abbrev P : Type := Fin 2 × Fin 3 × Fin 2

/-- The transfers, in the order a device starts them. -/
def order : List P :=
  [(0,0,0), (1,0,0), (0,0,1), (1,0,1), (0,1,0), (1,1,0), (0,1,1), (1,1,1), (0,2,0), (1,2,0), (0,2,1), (1,2,1)]

/-- The order of the transfers repeats none, -/
theorem order_nodup : order.Nodup := by decide

/-- and leaves none out. -/
theorem order_univ : order.toFinset = Finset.univ := by decide

set_option backward.proofsInPublic true in
/-- The semaphore that counts transfer `p` out of a device. -/
def sndS (p : P) : DmaSem sig := ⟨2 + (6 * p.1.val + 2 * p.2.1.val + p.2.2.val), by have := p.1.2; have := p.2.1.2; have := p.2.2.2; show _ < 26; omega⟩
set_option backward.proofsInPublic true in
/-- The semaphore that counts transfer `p` into a device. -/
def rcvS (p : P) : DmaSem sig := ⟨14 + (6 * p.1.val + 2 * p.2.1.val + p.2.2.val), by have := p.1.2; have := p.2.1.2; have := p.2.2.2; show _ < 26; omega⟩

/-! ## Pieces -/

/-- A transfer's piece lies inside the receive buffer, -/
theorem inbR (p : P) : ∀ a, (![p.1.val, p.2.1.val, 128 * p.2.2.val, 0] : Fin 4 → Nat) a + S1x1x128x512.size a ≤ S2x3x256x512.size a := by
  revert p; decide

/-- a first hop's inside the accumulator, -/
theorem inbA (p : Fin 2 × Fin 2) : ∀ a, (![p.1.val, 128 * p.2.val, 0] : Fin 3 → Nat) a + S1x128x512.size a ≤ S2x256x512.size a := by
  revert p; decide

/-- a half's rows inside the result. -/
theorem inbO (p : Fin 2 × Fin 2) : ∀ a, (![256 * p.1.val + 128 * p.2.val, 0] : Fin 2 → Nat) a + S128x512.size a ≤ S512x512.size a := by
  revert p; decide

/-- The rectangle of the receive buffer that transfer `p` lands in. -/
abbrev rectR (p : P) : Rect S2x3x256x512 :=
  Rect.unit (s := S2x3x256x512) ![p.1.val, p.2.1.val, 128 * p.2.2.val, 0] S1x1x128x512.size (inbR p)
/-- A direction's and half's rectangle of the accumulator. -/
abbrev rectA (p : Fin 2 × Fin 2) : Rect S2x256x512 :=
  Rect.unit (s := S2x256x512) ![p.1.val, 128 * p.2.val, 0] S1x128x512.size (inbA p)
/-- A direction's and half's rows of the result. -/
abbrev rectO (p : Fin 2 × Fin 2) : Rect S512x512 :=
  Rect.unit (s := S512x512) ![256 * p.1.val + 128 * p.2.val, 0] S128x512.size (inbO p)

/-- The piece of the receive buffer that transfer `p` lands in, as a matrix. -/
abbrev recvM (p : P) : Memref sig .tc .vmem S128x512 .f32 :=
  ((Memref.whole cc0_scratch1 : Memref sig .tc .vmem S2x3x256x512 .f32).slice (rectR p) (fun _ => rfl)).squeeze S128x512 squeezes_S1x1x128x512_S128x512
/-- A direction's and half's piece of the accumulator, as a matrix. -/
abbrev accM (p : Fin 2 × Fin 2) : Memref sig .tc .vmem S128x512 .f32 :=
  ((Memref.whole cc0_scratch0 : Memref sig .tc .vmem S2x256x512 .f32).slice (rectA p) (fun _ => rfl)).squeeze S128x512 squeezes_S1x128x512_S128x512

/-- The piece transfer `p` reads: the accumulator's at hop 0, then the receive buffer's of the hop before. -/
def srcM : P → Memref sig .tc .vmem S128x512 .f32
  | (d, 0, s) => accM (d, s)
  | (d, 1, s) => recvM (d, 0, s)
  | (d, 2, s) => recvM (d, 1, s)

/-- The units one transfer counts. -/
abbrev N : ℕ := (recvM (0, 0, 0)).view.dmaCredit

/-- A transfer counts at least one unit. -/
theorem N_pos : 0 < N := View.dmaCredit_pos _ (by decide)

/-- An arrival counts a transfer's units, -/
theorem amount_recvM (p : P) (sm : DmaSem sig) : (recvM p).view.amount (.dma sm) = N := rfl

/-- and so does the reading of its source. -/
theorem credit_srcM (p : P) : (srcM p).view.dmaCredit = N := by
  obtain ⟨d, h, s⟩ := p; fin_cases h <;> rfl

end Cert.RingProof

end
-- ==== Proof.Ring.Rules.lean ====
/-
# Loading and storing a piece

A core that owns a slice of a buffer, read as a matrix without the slice's unit axes, may load the slice's
rectangle through the whole buffer and store to it: the load reads the matrix, in the rectangle's shape,
and the store leaves the matrix stored.
-/
module

public import proofs.«01_k».proof.Proof.Ring.Pieces

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: one copy for the staging of arguments, one for the ring -/

/-- The ring's ghost resources: rounds with the directions as duty names. -/
abbrev UB : Type := URounds (GSem nD τ sig) (Fin 2)

/-- The ghost state: the calls' and the protocol's. -/
abbrev UU : Type := UR sig nD τ × UB

local notation "𝕄" => MT nD τ sig Unit (Elt F) ℕ UU ℕ

/-- The calls' part of it, -/
abbrev EP : Emb (UR sig nD τ) (MT nD τ sig Unit (Elt F) ℕ UU ℕ) := embL

/-- and the protocol's. -/
abbrev ER : Emb UB (MT nD τ sig Unit (Elt F) ℕ UU ℕ) := embR

/-- No loop needs a variant. -/
abbrev 𝒱₀ : Variants := Variants.none

/-- The weakest precondition of a device's program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {s s' : Shape} {α : Type}

/-- Loading the rectangle of an owned piece reads the piece. -/
theorem wp_load_piece (M : Memref sig .tc .vmem s .f32) (r : Rect s) (hr : ∀ a, r.stride a = 1)
    (hq : r.shape.Squeezes s') (hc : r.shape.ShapeCasts s') (hc' : s'.ShapeCasts r.shape) (X : s'.Idx → Elt F .f32)
    {hl : M.view.LoadsAt r.toLoadRect} {k : (r.shape.Idx → Elt F .f32) → Prog (TpuEff nD τ sig (Elt F) Λ₀ .tc) α} {Q : α → sProp 𝕄} :
    (owns (c : Thread nD τ) ((M.slice r hr).squeeze s' hq) fullShare X : sProp 𝕄)
      ⊢ iprop((owns (c : Thread nD τ) ((M.slice r hr).squeeze s' hq) fullShare X -∗ WP c (k (shapeCast r.shape X hc')) Q)
          -∗ WP c (.op (.load M r.toLoadRect hl) k) Q) := by
  iintro H Hk
  unfold owns
  icases H with ⟨%f, %hf, H⟩
  have hX : shapeCast r.shape X hc' = M.view.readAt (Elt F) r.toLoadRect f := by
    rw [← hf, Memref.read_squeeze_slice M r hr hq hc f]; exact shapeCast_shapeCast _ _ _
  rw [hX]
  iapply (wp_load 𝒱₀ (c : Thread nD τ) none Set.univ (m := M) (r := r.toLoadRect) (f := f)
    (S := ((M.slice r hr).squeeze s' hq).view.set)
    ((View.set_slice M.view r).symm.trans (Memref.set_view_squeeze (M.slice r hr) hq).symm).le) $$ [H]
  · iexact H
  iintro H
  iapply Hk
  iexists f
  isplitr; · ipureintro; exact hf
  iexact H

/-- Storing the rectangle of an owned piece leaves the piece stored. -/
theorem wp_store_piece (M : Memref sig .tc .vmem s .f32) (r : Rect s) (hr : ∀ a, r.stride a = 1)
    (hq : r.shape.Squeezes s') (hc : r.shape.ShapeCasts s') (X : s'.Idx → Elt F .f32) (w : r.shape.Idx → Elt F .f32)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) ((M.slice r hr).squeeze s' hq) fullShare X : sProp 𝕄)
      ⊢ iprop((owns (c : Thread nD τ) ((M.slice r hr).squeeze s' hq) fullShare (shapeCast s' w hc) -∗ WP c (k ⟨⟩) Q)
          -∗ WP c (.op (.store M r w Finset.univ hx hm) k) Q) := by
  iintro H Hk
  unfold owns
  icases H with ⟨%f, %hf, H⟩
  iapply (wp_store 𝒱₀ (c : Thread nD τ) none Set.univ (m := M) (r := r) (Mk := Finset.univ) (f := f)
    (S := ((M.slice r hr).squeeze s' hq).view.set)
    (by rw [Memref.set_view_squeeze]; exact Finset.Subset.refl _)) $$ [H]
  · iexact H
  iintro H
  iapply Hk
  iexists ((M.access r).write (Elt F) f w Finset.univ)
  isplitr
  · ipureintro
    rw [Memref.read_squeeze_slice M r hr hq hc]
    refine congrArg (fun z => shapeCast s' z hc) ?_
    exact View.read_write_univ (v := M.access r) f w
  · iexact H

/-- Loading a rectangle of a whole owned buffer. -/
theorem wp_load_whole (M : Memref sig .tc .vmem s .f32) (r : Rect s) (X : s.Idx → Elt F .f32)
    {hl : M.view.LoadsAt r.toLoadRect} {k : (r.shape.Idx → Elt F .f32) → Prog (TpuEff nD τ sig (Elt F) Λ₀ .tc) α} {Q : α → sProp 𝕄} :
    (owns (c : Thread nD τ) M fullShare X : sProp 𝕄)
      ⊢ iprop((owns (c : Thread nD τ) M fullShare X -∗ WP c (k (fun j => X (r.emb j))) Q)
          -∗ WP c (.op (.load M r.toLoadRect hl) k) Q) := by
  iintro H Hk
  unfold owns
  icases H with ⟨%f, %hf, H⟩
  subst hf
  iapply (wp_load 𝒱₀ (c : Thread nD τ) none Set.univ (m := M) (r := r.toLoadRect) (f := f) (S := M.view.set) (View.setOn_subset_set _ _)) $$ [H]
  · iexact H
  iintro H
  iapply Hk
  iexists f
  isplitr; · ipureintro; rfl
  iexact H

end Cert.RingProof

end
-- ==== Proof.Ring.Contents.lean ====
/-
# What the transfers carry

`xs c` is device `c`'s matrix. A direction (`d`) and half (`s`) carry 128 rows of it around the ring, 512
columns at a time: `val xs d s n c` is what device `c` holds after `n` additions — its own rows at the
first chunk of columns, then what arrives from the device before plus its own rows at the chunk that arrived.
-/
module

public import proofs.«01_k».proof.Proof.Ring.Rules

@[expose] public section

noncomputable section

namespace Cert.RingProof

open Cert.KernelIdeal Cert.KernelIdeal.Gen
open Idealize.ShloMosaic
open Idealize.ShloMosaic.TcCoe

variable {F : FTy → Type} [FloatOps F]

set_option backward.proofsInPublic true in
/-- The chunk of columns device `c` adds at its `n`-th addition (its first chunk at `n = 0`). -/
def ck (d : Fin 2) (n : ℕ) (c : Dev nD) : Dev nD :=
  ⟨(c.val + (if d = 0 then 3 + 3 * n else 1 + n)) % 4, Nat.mod_lt _ (by decide)⟩

/-- The rows of a direction and half, at a chunk of columns, lie inside the matrix. -/
theorem inbX (d s : Fin 2) (k : Dev nD) :
    ∀ a, (![256 * d.val + 128 * s.val, 512 * k.val] : Fin 2 → Nat) a + S128x512.size a ≤ S512x2048.size a := by
  revert d s k; decide

/-- The rows of a direction and half, at a chunk of columns. -/
abbrev rectX (d s : Fin 2) (k : Dev nD) : Rect S512x2048 :=
  Rect.unit (s := S512x2048) ![256 * d.val + 128 * s.val, 512 * k.val] S128x512.size (inbX d s k)

/-- A matrix's part at those rows and columns. -/
def part (X : S512x2048.Idx → Elt F .f32) (d s : Fin 2) (k : Dev nD) : FVec F S128x512 .f32 := fun j => X ((rectX d s k).emb j)

/-- What device `c` holds for direction `d` and half `s` after `n` additions. -/
def val (xs : Dev nD → S512x2048.Idx → Elt F .f32) (d s : Fin 2) : ℕ → Dev nD → FVec F S128x512 .f32
  | 0, c => part (xs c) d s (ck d 0 c)
  | n + 1, c => addf (val xs d s n (src d c)) (part (xs c) d s (ck d (n + 1) c))

/-- What a load of 128 rows reads, whatever expression gives its offsets. -/
theorem part_of_off (X : S512x2048.Idx → Elt F .f32) (d s : Fin 2) (k : Dev nD) {off : Fin 2 → Nat}
    (h : off = ![256 * d.val + 128 * s.val, 512 * k.val]) (hi : ∀ a, off a + S128x512.size a ≤ S512x2048.size a) :
    (fun j => X ((Rect.unit (s := S512x2048) off S128x512.size hi).emb j)) = part X d s k := by
  subst h; rfl

end Cert.RingProof

end
-- ==== Proof.Ring.Protocol.lean ====
/-
# The protocol of the ring

Each device has a barrier semaphore, and a send and a receive semaphore for each transfer. A signal of the
barrier hands over the pieces of the signaller's receive buffer that the signalled device will write. A transfer
hands the landed piece to the receiver, at named contents, and the piece it read back to the sender.
-/
module

public import proofs.«01_k».proof.Proof.Ring.Contents

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32)

/-! ## Cells -/

/-- A semaphore's part in the protocol. -/
inductive Kd where
  | bar
  | snd (p : P)
  | rcv (p : P)
  | other
deriving DecidableEq

set_option backward.proofsInPublic true in
/-- The transfer at a position of a table of transfers. -/
def decode (n : ℕ) : P := (⟨n / 6 % 2, Nat.mod_lt _ (by decide)⟩, ⟨n / 2 % 3, Nat.mod_lt _ (by decide)⟩, ⟨n % 2, Nat.mod_lt _ (by decide)⟩)

/-- A semaphore's part in the protocol, from its position. -/
def kd : SemLoc sig → Kd
  | .reg _ => .bar
  | .dma i => if i.val < 2 then .other else if i.val < 14 then .snd (decode (i.val - 2)) else .rcv (decode (i.val - 14))

/-- A send semaphore's part is to send, -/
theorem kd_snd (p : P) : kd (.dma (sndS p)) = .snd p := by revert p; decide

/-- a receive semaphore's to receive. -/
theorem kd_rcv (p : P) : kd (.dma (rcvS p)) = .rcv p := by revert p; decide

/-- The barrier semaphore. -/
abbrev barS : Sem sig := sig.barrier 0 rfl

/-- A device's barrier semaphore, -/
abbrev barCell (c : Dev nD) : GSem nD τ sig := ((c : Thread nD τ), .reg barS)

/-- its send semaphore for a transfer, -/
abbrev sndCell (c : Dev nD) (p : P) : GSem nD τ sig := ((c : Thread nD τ), .dma (sndS p))

/-- its receive semaphore for one. -/
abbrev rcvCell (c : Dev nD) (p : P) : GSem nD τ sig := ((c : Thread nD τ), .dma (rcvS p))

/-! ## Payloads -/

/-- Paid to `c`'s barrier by the device `c` sends to in direction `d`: that device's receive pieces of the direction,
    at any contents, each receive cell at its first round. -/
def barPay (c : Dev nD) (d : Fin 2) : sProp 𝕄 :=
  bigSep Finset.univ fun hs : Fin 3 × Fin 2 =>
    iprop((∃ X, owns ((tgt d c : Dev nD) : Thread nD τ) (recvM (d, hs)) fullShare X) ∗ reached ER (rcvCell (tgt d c) (d, hs)) 0)

/-- Paid to `c`'s receive cell of `p`: the piece, holding what the device before held. -/
def rcvPay (c : Dev nD) (p : P) : sProp 𝕄 :=
  owns (c : Thread nD τ) (recvM p) fullShare (val xs p.1 p.2.2 p.2.1.val (src p.1 c))

/-- Paid to `c`'s send cell of `p`: the piece the transfer read. -/
def sndPay (c : Dev nD) (p : P) : sProp 𝕄 :=
  owns (c : Thread nD τ) (srcM p) fullShare (val xs p.1 p.2.2 p.2.1.val c)

instance barPay_storable (c : Dev nD) (d : Fin 2) : BI.Storable (upEmb : UEmb _ 𝕄) (barPay c d : sProp 𝕄) := by
  unfold barPay; infer_instance
instance rcvPay_storable (c : Dev nD) (p : P) : BI.Storable (upEmb : UEmb _ 𝕄) (rcvPay xs c p : sProp 𝕄) := by
  unfold rcvPay; infer_instance
instance sndPay_storable (c : Dev nD) (p : P) : BI.Storable (upEmb : UEmb _ 𝕄) (sndPay xs c p : sProp 𝕄) := by
  unfold sndPay; infer_instance

/-! ## The schedule -/

/-- The duties of a kind of cell. -/
def dutiesOf : Kd → Finset (Fin 2)
  | .bar => Finset.univ
  | .snd _ => {0}
  | .rcv _ => {0}
  | .other => ∅

/-- What a duty hands over. -/
def payOf (c : Dev nD) (d : Fin 2) : Kd → sProp 𝕄
  | .bar => barPay c d
  | .snd p => sndPay xs c p
  | .rcv p => rcvPay xs c p
  | .other => iprop(emp)

/-- The units a duty counts. -/
def amtOf : Kd → ℕ
  | .bar => 1
  | _ => N

/-- Every duty pays something. -/
theorem amtOf_pos (k : Kd) : 0 < amtOf k := by cases k <;> first | exact Nat.one_pos | exact N_pos

/-- One round: a barrier cell has a duty for each direction, a send or receive cell one duty. -/
def Rd : Rounds.Schedule (GSem nD τ sig) (Fin 2) 𝕄 where
  duties g r := if r = 0 ∧ g.1.2 = .tc then dutiesOf (kd g.2) else ∅
  unitless _ := False
  amount g _ _ := amtOf (kd g.2)
  payload g _ d := payOf xs g.1.1 d (kd g.2)
  amount_pos g _ _ _ := amtOf_pos _

instance Rd_storable (g : GSem nD τ sig) (r : ℕ) (d : Fin 2) :
    BI.Storable (upEmb : UEmb _ 𝕄) ((Rd xs).payload g r d) := by
  show BI.Storable upEmb (payOf xs g.1.1 d (kd g.2))
  unfold payOf
  split <;> infer_instance

variable (c : Dev nD) (p : P)

/-- A barrier is paid by both neighbours; -/
theorem duties_bar : (Rd xs).duties (barCell c) 0 = Finset.univ := by
  show (if (0 : ℕ) = 0 ∧ (barCell c).1.2 = .tc then dutiesOf (kd (barCell c).2) else ∅) = _
  rw [if_pos ⟨rfl, rfl⟩]; rfl

/-- a send semaphore once, -/
theorem duties_snd : (Rd xs).duties (sndCell c p) 0 = {0} := by
  show (if (0 : ℕ) = 0 ∧ (sndCell c p).1.2 = .tc then dutiesOf (kd (.dma (sndS p))) else ∅) = _
  rw [if_pos ⟨rfl, rfl⟩, kd_snd]; rfl

/-- as a receive semaphore is; -/
theorem duties_rcv : (Rd xs).duties (rcvCell c p) 0 = {0} := by
  show (if (0 : ℕ) = 0 ∧ (rcvCell c p).1.2 = .tc then dutiesOf (kd (.dma (rcvS p))) else ∅) = _
  rw [if_pos ⟨rfl, rfl⟩, kd_rcv]; rfl

/-- nothing is paid after the first round. -/
theorem duties_later (g : GSem nD τ sig) : ∀ r, 1 ≤ r → (Rd xs).duties g r = ∅ := fun r hr => by
  show (if r = 0 ∧ g.1.2 = .tc then dutiesOf (kd g.2) else ∅) = _
  exact if_neg fun h => by omega

/-- A neighbour pays a barrier one unit, -/
theorem amount_bar (d : Fin 2) : (Rd xs).amount (barCell c) 0 d = 1 := rfl

/-- a transfer pays its send semaphore its units, -/
theorem amount_snd (d : Fin 2) : (Rd xs).amount (sndCell c p) 0 d = N := by show amtOf (kd (.dma (sndS p))) = _; rw [kd_snd]; rfl

/-- and its receive semaphore as many. -/
theorem amount_rcv (d : Fin 2) : (Rd xs).amount (rcvCell c p) 0 d = N := by show amtOf (kd (.dma (rcvS p))) = _; rw [kd_rcv]; rfl

/-- What comes with a barrier's unit, -/
theorem payload_bar (d : Fin 2) : (Rd xs).payload (barCell c) 0 d = barPay c d := rfl

/-- with a send semaphore's, -/
theorem payload_snd (d : Fin 2) : (Rd xs).payload (sndCell c p) 0 d = sndPay xs c p := by show payOf xs c d (kd (.dma (sndS p))) = _; rw [kd_snd]; rfl

/-- with a receive semaphore's. -/
theorem payload_rcv (d : Fin 2) : (Rd xs).payload (rcvCell c p) 0 d = rcvPay xs c p := by show payOf xs c d (kd (.dma (rcvS p))) = _; rw [kd_rcv]; rfl

/-- A barrier gets two units in all, -/
theorem expect_bar : (Rd xs).expect (barCell c) 0 = 2 := by
  unfold Schedule.expect Schedule.amountOf
  rw [duties_bar, Finset.sum_congr rfl fun d _ => amount_bar xs c d]; rfl

/-- a send semaphore a transfer's, -/
theorem expect_snd : (Rd xs).expect (sndCell c p) 0 = N := by
  unfold Schedule.expect Schedule.amountOf; rw [duties_snd, Finset.sum_singleton, amount_snd]

/-- and so does a receive semaphore. -/
theorem expect_rcv : (Rd xs).expect (rcvCell c p) 0 = N := by
  unfold Schedule.expect Schedule.amountOf; rw [duties_rcv, Finset.sum_singleton, amount_rcv]

/-- What a wait at the barrier gives: what both neighbours hand over; -/
theorem rest_bar : bigSep ((Rd xs).duties (barCell c) 0 \ ∅) (fun d => (Rd xs).payload (barCell c) 0 d) = iprop(barPay c 0 ∗ barPay c 1) := by
  rw [Finset.sdiff_empty, duties_bar]
  exact BI.bigSep_fin_two fun d => (Rd xs).payload (barCell c) 0 d

/-- at a send semaphore: the piece that was read; -/
theorem rest_snd : bigSep ((Rd xs).duties (sndCell c p) 0 \ ∅) (fun d => (Rd xs).payload (sndCell c p) 0 d) = sndPay xs c p := by
  rw [Finset.sdiff_empty, duties_snd, bigSep_singleton, payload_snd]

/-- at a receive semaphore: the piece that arrived. -/
theorem rest_rcv : bigSep ((Rd xs).duties (rcvCell c p) 0 \ ∅) (fun d => (Rd xs).payload (rcvCell c p) 0 d) = rcvPay xs c p := by
  rw [Finset.sdiff_empty, duties_rcv, bigSep_singleton, payload_rcv]

/-! ## What a device owes -/

/-- The transfers still to start, as credit owed to the receive cells they land at. -/
def OL (c : Dev nD) : List P → CellTallies nD τ sig Unit
  | [] => 0
  | p :: ps => OL c ps + tallyAt (rcvCell (tgt p.1 c) p) () N

/-- What a device owes at launch: every transfer, and a signal to each neighbour's barrier. -/
def O₀ (c : Dev nD) : CellTallies nD τ sig Unit :=
  OL c order + tallyAt (barCell (tgt 0 c)) () 1 + tallyAt (barCell (tgt 1 c)) () 1

/-- A unit owed to one semaphore is owed to no other. -/
theorem tallyAt_pos {g g' : GSem nD τ sig} {n : ℕ} {u : Unit} (h : 0 < (tallyAt g () n : CellTallies nD τ sig Unit) g' u) : g' = g := by
  rw [tallyAt_apply] at h
  split at h
  · next hg => exact hg.1
  · exact absurd h (Nat.lt_irrefl 0)

/-- What the transfers owe, they owe to receive semaphores. -/
theorem OL_pos {c : Dev nD} {ps : List P} {g : GSem nD τ sig} {u : Unit} (h : 0 < OL c ps g u) :
    ∃ q ∈ ps, g = rcvCell (tgt q.1 c) q := by
  induction ps with
  | nil => exact absurd h (Nat.lt_irrefl 0)
  | cons q qs ih =>
    unfold OL at h
    rw [Pi.add_apply, Finsupp.add_apply] at h
    rcases Nat.add_pos_iff_pos_or_pos.mp h with h | h
    · obtain ⟨q', hq, e⟩ := ih h; exact ⟨q', List.mem_cons_of_mem _ hq, e⟩
    · exact ⟨q, List.mem_cons_self .., tallyAt_pos h⟩

/-! ## Levels -/

/-- Every cell of a device's core has a level. -/
def L (g : GSem nD τ sig) : Finset Unit := if g.1.2 = .tc then {()} else ∅

/-- Barrier cells at 1, receive cells above by hop, every other cell at 0. -/
def lvOf : Kd → ℕ
  | .bar => 1
  | .rcv p => 2 + p.2.1.val
  | _ => 0

/-- A semaphore's level. -/
def lv (g : GSem nD τ sig) (_ : Unit) : ℕ := lvOf (kd g.2)

/-- Semaphores of other cores have no level. -/
theorem L_of_ne (g : GSem nD τ sig) (h : g.1.2 ≠ .tc) : L g = ∅ := if_neg h

/-- Those of a device's core have one, -/
theorem L_tc (c : Dev nD) (sm : SemLoc sig) : L ((c : Thread nD τ), sm) = {()} := if_pos rfl

/-- whichever they are. -/
theorem mem_L (c : Dev nD) (sm : SemLoc sig) (u : Unit) : u ∈ L ((c : Thread nD τ), sm) := by
  rw [L_tc]; exact Finset.mem_singleton_self _

/-- A receive semaphore's level goes by its hop. -/
theorem lv_rcv (c : Dev nD) (p : P) (u : Unit) : lv (rcvCell c p) u = 2 + p.2.1.val := by
  show lvOf (kd (.dma (rcvS p))) = _; rw [kd_rcv]; rfl

/-- A device may wait for its barrier while it owes transfers. -/
theorem mayWait_bar (c : Dev nD) (ps : List P) :
    (levAts L lv : sProp 𝕄) ⊢ MayWait (c : Thread nD τ) (.reg barS) () (OL c ps) :=
  MayOwe.of_cut (L := L) (lev := lv) 1 (fun q hq => by rw [Finset.mem_singleton.mp hq]; exact mem_L _ _ _)
    (fun g u hg => by obtain ⟨q, -, rfl⟩ := OL_pos hg; exact mem_L _ _ _)
    (fun q hq => by rw [Finset.mem_singleton.mp hq]; exact Nat.le_refl 1)
    (fun g u hg => by obtain ⟨q, -, rfl⟩ := OL_pos hg; rw [lv_rcv]; omega)

/-- A device may wait for a transfer to land while it owes transfers of later hops only. -/
theorem mayWait_rcv (c : Dev nD) (p : P) (ps : List P) (h : ∀ q ∈ ps, p.2.1.val < q.2.1.val) :
    (levAts L lv : sProp 𝕄) ⊢ MayWait (c : Thread nD τ) (.dma (rcvS p)) () (OL c ps) :=
  MayOwe.of_cut (L := L) (lev := lv) (2 + p.2.1.val) (fun q hq => by rw [Finset.mem_singleton.mp hq]; exact mem_L _ _ _)
    (fun g u hg => by obtain ⟨q, -, rfl⟩ := OL_pos hg; exact mem_L _ _ _)
    (fun q hq => by rw [Finset.mem_singleton.mp hq]; exact Nat.le_of_eq (lv_rcv c p ()))
    (fun g u hg => by obtain ⟨q, hq, rfl⟩ := OL_pos hg; rw [lv_rcv]; have := h q hq; omega)

/-! ## The cells' invariants -/

/-- The semaphores the kernel allocates for itself: the send and the receive semaphore of each transfer. -/
def osem : Fin 2 × P → SemLoc sig := fun x => if x.1 = 0 then .dma (sndS x.2) else .dma (rcvS x.2)

/-- The transfers' semaphores are different, -/
theorem osem_inj : Function.Injective osem := by decide

/-- and none is the barrier. -/
theorem osem_ne_bar : ∀ k, osem k ≠ .reg barS := by decide

/-- The barrier semaphores, listed by device. -/
def barEmb : Dev nD ↪ GSem nD τ sig := ⟨fun c => barCell c, fun _ _ h => congrArg (fun g : GSem nD τ sig => g.1.1) h⟩

/-- The transfers' semaphores, listed by device. -/
def scEmb : Dev nD × (Fin 2 × P) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the send and receive cells. -/
abbrev barCells : Finset (GSem nD τ sig) := Finset.univ.map barEmb

/-- All of the transfers' semaphores. -/
abbrev scCells : Finset (GSem nD τ sig) := Finset.univ.map scEmb

/-- A barrier is among the protocol's semaphores, -/
theorem bar_mem (c : Dev nD) : barCell c ∈ (barCells ∪ scCells : Finset (GSem nD τ sig)) :=
  Finset.mem_union_left _ (Finset.mem_map_of_mem barEmb (Finset.mem_univ c))

/-- as is a send semaphore -/
theorem snd_mem (c : Dev nD) (p : P) : sndCell c p ∈ (barCells ∪ scCells : Finset (GSem nD τ sig)) :=
  Finset.mem_union_right _ (Finset.mem_map_of_mem scEmb (Finset.mem_univ (c, ((0 : Fin 2), p))))

/-- and a receive semaphore. -/
theorem rcv_mem (c : Dev nD) (p : P) : rcvCell c p ∈ (barCells ∪ scCells : Finset (GSem nD τ sig)) :=
  Finset.mem_union_right _ (Finset.mem_map_of_mem scEmb (Finset.mem_univ (c, ((1 : Fin 2), p))))

/-- What every device may consult: all the cells' invariants, under one map of names. -/
def Invs (K : GSem nD τ sig → ℕ) : sProp 𝕄 := bigSep (barCells ∪ scCells) fun g => cellInv ER (Rd xs) (K g) g

instance Invs_persistent (K : GSem nD τ sig → ℕ) : BI.Persistent (Invs xs K) := by unfold Invs; infer_instance

/-- Each of them has its invariant. -/
theorem inv_at (K : GSem nD τ sig → ℕ) {g : GSem nD τ sig} (hg : g ∈ (barCells ∪ scCells : Finset (GSem nD τ sig))) :
    (Invs xs K : sProp 𝕄) ⊢ cellInv ER (Rd xs) (K g) g := by unfold Invs; exact bigSep_elim hg

/-- A semaphore whose round is over reads zero. -/
theorem close (κ : ℕ) (g : GSem nD τ sig) :
    iprop(cellInv ER (Rd xs) κ g ∗ atPos ER g (0 + 1) ∅ 0) ⊢ (|={Set.univ}=> semVal g 0 : sProp 𝕄) :=
  Rounds.cell_close ER (Rd xs) (Set.mem_univ κ) id (duties_later xs g)

end Cert.RingProof

end
-- ==== Proof.Ring.Steps.lean ====
/-
# The steps of a device's program

What a device needs and gets at each operation of its program: starting a transfer, waiting for one to land,
waiting for one to leave, and loading and storing pieces.
-/
module

public import proofs.«01_k».proof.Proof.Ring.Protocol

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32) (K : GSem nD τ sig → ℕ) (c : Dev nD)

/-! ## What a device holds -/

/-- What every device may consult. -/
def Env : sProp 𝕄 := iprop(Invs xs K ∗ levAts L lv)

instance Env_persistent : BI.Persistent (Env xs K) := by unfold Env; infer_instance

/-- The transfers still to start. -/
def ow (ps : List P) : sProp 𝕄 := iprop(∃ W, owes (c : Thread nD τ) (OL c ps) W)

/-- A piece at named contents. -/
abbrev piece (M : Memref sig .tc .vmem S128x512 .f32) (X : S128x512.Idx → Elt F .f32) : sProp 𝕄 := owns (c : Thread nD τ) M fullShare X

/-- What a device's own part of a transfer it will start is. -/
def mayStart (p : P) : sProp 𝕄 :=
  iprop(atPos ER (sndCell c p) 0 ∅ 0 ∗ reached ER (sndCell c p) 0 ∗ dutyTok ER (sndCell c p) 0 0 ∗ dutyTok ER (rcvCell (tgt p.1 c) p) 0 0)

/-- What the barrier brings for a transfer: the piece it lands in. -/
def target (p : P) : sProp 𝕄 :=
  iprop((∃ X, owns ((tgt p.1 c : Dev nD) : Thread nD τ) (recvM p) fullShare X) ∗ reached ER (rcvCell (tgt p.1 c) p) 0)

/-- A transfer started and not yet known to have left. -/
def sent (p : P) : sProp 𝕄 := iprop(atPos ER (sndCell c p) 0 ∅ 0 ∗ cred (tallyAt (sndCell c p) () N))

/-- A transfer that will land. -/
def mayLand (p : P) : sProp 𝕄 := iprop(atPos ER (rcvCell c p) 0 ∅ 0 ∗ cred (tallyAt (rcvCell c p) () N))

/-- A piece that landed with the right contents is what the receiver is due. -/
theorem landed_pay (p : P) (fd : Buf (Elt F) ((recvM p).view.loc (tgt p.1 c : Thread nD τ))) (X : S128x512.Idx → Elt F .f32)
    (hX : X = val xs p.1 p.2.2 p.2.1.val c) :
    ((recvM p).view.loc (tgt p.1 c : Thread nD τ) ↦[(recvM p).view.set]{fullShare} ((recvM p).view.write (Elt F) fd X Finset.univ) : sProp 𝕄)
      ⊢ rcvPay xs (tgt p.1 c) p := by
  unfold rcvPay owns
  rw [src_tgt]
  iintro H
  iexists _
  isplitr
  · ipureintro; exact (View.read_write_univ (v := (recvM p).view) fd X).trans hX
  · iexact H

/-! ## Transfers -/

/-- Starting a transfer: the piece it reads, at what the device holds for it, goes with it. -/
theorem step_send (p : P) (ps : List P) {n : Dev nD} (hn : n = tgt p.1 c)
    {src dst : Memref sig .tc .vmem S128x512 .f32} (hs : src = srcM p) (hd : dst = recvM p)
    {sS rS : DmaSem sig} (hsS : sS = sndS p) (hrS : rS = rcvS p)
    {hsc : dst.view.ref.isScScratch = false} {h1 : src.view.WordExact} {h2 : dst.view.WordExact}
    {h3 : DmaTarget.Typed .vmem (.dma rS) (.remote (p := .tc) (n : Thread nD τ) dst (.dma sS) hsc)}
    {α : Type} {k : PUnit → Prog (TpuEff nD τ sig (Elt F) Λ₀ .tc) α} {Q : α → sProp 𝕄} :
    iprop(Env xs K ∗ piece c src (val xs p.1 p.2.2 p.2.1.val c) ∗ (mayStart c p ∗ target c p) ∗ ow c (p :: ps))
      ⊢ iprop(((sent c p ∗ ow c ps) -∗ WP c (k ⟨⟩) Q)
          -∗ WP c (.op (.enqueueDma src (.remote (n : Thread nD τ) dst (.dma sS) hsc) (.dma rS) h1 h2 h3) k) Q) := by
  subst hn hs hd hsS hrS
  unfold Env mayStart target ow sent
  iintro ⟨⟨#HI, #Hlev⟩, Hsrc, ⟨⟨Hat, #Hr, Ht, HtN⟩, ⟨%X, HX⟩, #HrN⟩, ⟨%W, HO⟩⟩ Hk
  ihave #HIs := (inv_at xs K (snd_mem c p)) $$ HI
  ihave #HIr := (inv_at xs K (rcv_mem (tgt p.1 c) p)) $$ HI
  unfold piece owns
  icases Hsrc with ⟨%fs, %hfs, Hsrc⟩
  icases HX with ⟨%fd, -, Hdst⟩
  iapply (Rounds.wp_send_pointsTo 𝒱₀ ER (Rd xs) (c : Thread nD τ) none (c' := ((tgt p.1 c : Dev nD) : Thread nD τ)) (src := srcM p) (dst := recvM p)
      (sS := .dma (sndS p)) (sem := .dma (rcvS p)) (q := fullShare) (fs := fs) (fd := fd) (κ₁ := K (sndCell c p)) (κ₂ := K (rcvCell (tgt p.1 c) p))
      (r₁ := 0) (r₂ := 0) (d₁ := 0) (d₂ := 0)
      (by rw [duties_snd]; exact Finset.mem_singleton_self _) (by rw [duties_rcv]; exact Finset.mem_singleton_self _)
      () () N (amount_recvM p _) (amount_snd xs c p 0) (amount_rcv xs (tgt p.1 c) p 0) (OL c ps) rfl (W := W)
      (by rw [payload_snd]; unfold sndPay owns
          iintro H; iexists fs; isplitr
          · ipureintro; exact hfs
          · iexact H)
      (by rw [payload_rcv]; exact landed_pay xs c p fd _ hfs)) $$ [Hsrc Hdst HO Ht HtN]
  · isplitr; · iexact HIs
    isplitr; · iexact HIr
    isplitl [Hsrc]; · iexact Hsrc
    isplitl [Hdst]; · iexact Hdst
    isplitl [HO]; · iexact HO
    isplitl [Ht]; · iexact Ht
    isplitr; · iexact Hr
    isplitl [HtN]; · iexact HtN
    iexact HrN
  iintro ⟨Hc, HO⟩
  iapply Hk
  isplitl [Hat Hc]
  · isplitl [Hat]; · iexact Hat
    iexact Hc
  iexists W; iexact HO

/-- Waiting for a transfer to land, while only transfers of later hops are owed: the piece comes, holding what
    the device before held, and the semaphore is back at zero. -/
theorem step_recv (p : P) (ps : List P) (hps : ∀ q ∈ ps, p.2.1.val < q.2.1.val)
    {src dst : Memref sig .tc .vmem S128x512 .f32} (hd : dst = recvM p) {rS : DmaSem sig} (hrS : rS = rcvS p)
    {h1 : src.view.WordExact} {h2 : dst.view.WordExact}
    {α : Type} {k : PUnit → Prog (TpuEff nD τ sig (Elt F) Λ₀ .tc) α} {Q : α → sProp 𝕄} :
    iprop(Env xs K ∗ mayLand c p ∗ ow c ps)
      ⊢ iprop(((piece c (recvM p) (val xs p.1 p.2.2 p.2.1.val (Cert.RingProof.src p.1 c)) ∗ semVal (rcvCell c p) 0 ∗ ow c ps) -∗ WP c (k ⟨⟩) Q)
          -∗ WP c (.op (.waitDma2 rS src dst h1 h2) k) Q) := by
  subst hd hrS
  unfold Env mayLand ow
  iintro ⟨⟨#HI, #Hlev⟩, ⟨Hat, Hc⟩, ⟨%W, HO⟩⟩ Hk
  ihave #HIr := (inv_at xs K (rcv_mem c p)) $$ HI
  iapply (Rounds.wp_wait_rest_token 𝒱₀ ER (Rd xs) (c : Thread nD τ) none (κ := K (rcvCell c p))
      (wpE_waitDma2_eq (src := src) (dst := recvM p) (hsrc := h1) (hdst := h2) 𝒱₀ (c : Thread nD τ) none Set.univ) (Set.mem_univ _) () (O := OL c ps) (W := W) (R := 0) (m := 0) (T := ∅)
      ((Nat.zero_add _).trans (expect_rcv xs c p).symm)) $$ [Hc HO Hat]
  · isplitr; · iexact HIr
    isplitl [Hc]; · iexact Hc
    isplitl [HO]; · iexact HO
    isplitr; · iapply (mayWait_rcv c p ps hps); iexact Hlev
    iexact Hat
  iintro ⟨HO, Hat, -, Hpay⟩
  ihave Hp := (Entails.of_eq (rest_rcv xs c p)) $$ Hpay
  iapply (fupd_wp frame (wpE (defs₀ (F := F)) 𝒱₀ (c : Thread nD τ) none) Set.univ (k ⟨⟩) Q)
  imod (close xs (K (rcvCell c p)) (rcvCell c p)) $$ [Hat] with H0
  · isplitr; · iexact HIr
    iexact Hat
  imodintro
  iapply Hk
  isplitl [Hp]; · unfold rcvPay; iexact Hp
  isplitl [H0]; · iexact H0
  iexists _; iexact HO

/-- Waiting for a transfer to have left, when none is owed: the piece it read comes back, and the semaphore is
    back at zero. -/
theorem step_fin (p : P)
    {src dst : Memref sig .tc .vmem S128x512 .f32} (hd : dst = srcM p) {sS : DmaSem sig} (hsS : sS = sndS p)
    {h1 : src.view.WordExact} {h2 : dst.view.WordExact}
    {α : Type} {k : PUnit → Prog (TpuEff nD τ sig (Elt F) Λ₀ .tc) α} {Q : α → sProp 𝕄} :
    iprop(Env xs K ∗ sent c p ∗ ow c [])
      ⊢ iprop(((piece c (srcM p) (val xs p.1 p.2.2 p.2.1.val c) ∗ semVal (sndCell c p) 0 ∗ ow c []) -∗ WP c (k ⟨⟩) Q)
          -∗ WP c (.op (.waitDma2 sS src dst h1 h2) k) Q) := by
  subst hd hsS
  unfold Env sent ow
  iintro ⟨⟨#HI, #Hlev⟩, ⟨Hat, Hc⟩, ⟨%W, HO⟩⟩ Hk
  ihave #HIs := (inv_at xs K (snd_mem c p)) $$ HI
  ihave Hc := (Entails.of_eq (congrArg (fun n => (cred (tallyAt (sndCell c p) () n) : sProp 𝕄)) (credit_srcM p).symm)) $$ Hc
  iapply (Rounds.wp_wait_rest_token 𝒱₀ ER (Rd xs) (c : Thread nD τ) none (κ := K (sndCell c p))
      (wpE_waitDma2_eq (src := src) (dst := srcM p) (hsrc := h1) (hdst := h2) 𝒱₀ (c : Thread nD τ) none Set.univ) (Set.mem_univ _) () (O := 0) (W := W) (R := 0) (m := 0) (T := ∅)
      ((Nat.zero_add _).trans ((credit_srcM p).trans (expect_snd xs c p).symm))) $$ [Hc HO Hat]
  · isplitr; · iexact HIs
    isplitl [Hc]; · iexact Hc
    isplitl [HO]; · unfold OL; iexact HO
    isplitr; · rw [MayWait_zero]; iempintro
    iexact Hat
  iintro ⟨HO, Hat, -, Hpay⟩
  ihave Hp := (Entails.of_eq (rest_snd xs c p)) $$ Hpay
  iapply (fupd_wp frame (wpE (defs₀ (F := F)) 𝒱₀ (c : Thread nD τ) none) Set.univ (k ⟨⟩) Q)
  imod (close xs (K (sndCell c p)) (sndCell c p)) $$ [Hat] with H0
  · isplitr; · iexact HIs
    iexact Hat
  imodintro
  iapply Hk
  isplitl [Hp]; · unfold sndPay; iexact Hp
  isplitl [H0]; · iexact H0
  iexists _; unfold OL; iexact HO

end Cert.RingProof

end
-- ==== Proof.Ring.Memory.lean ====
/-
# Splitting the buffers into pieces and back

The accumulator and the receive buffer, each owned whole, are their pieces; and the pieces, at any contents, are
the buffer again.
-/
module

public import proofs.«01_k».proof.Proof.Ring.Steps

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Any buffer -/

section Generic

variable {s s' : Shape}

/-- Storing a rectangle of a whole owned buffer overlays it. -/
theorem wp_store_owned (M : Memref sig .tc .vmem s .f32) (r : Rect s) (hr : ∀ a, r.stride a = 1) (X : s.Idx → Elt F .f32)
    (w : r.shape.Idx → Elt F .f32)
    {hx : (M.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} :
    (owns (c : Thread nD τ) M fullShare X : sProp 𝕄)
      ⊢ iprop((owns (c : Thread nD τ) M fullShare (r.overlay X w) -∗ WP c (k ⟨⟩) Q)
          -∗ WP c (.op (.store M r w Finset.univ hx hm) k) Q) := by
  iintro H Hk
  ihave H' := (owns_slice_split (c : Thread nD τ) M fullShare r hr X) $$ H
  icases H' with ⟨Hs, %g, %hg, Hr⟩
  unfold owns
  icases Hs with ⟨%f, %hf, Hs⟩
  iapply (wp_store 𝒱₀ (c : Thread nD τ) none Set.univ (m := M) (r := r) (Mk := Finset.univ) (f := f)
    (S := (M.slice r hr).view.set) (Finset.Subset.refl _)) $$ [Hs]
  · iexact Hs
  iintro Hs
  iapply Hk
  subst hg
  ihave H := (owns_slice_join (c : Thread nD τ) M fullShare r hr w g) $$ [Hs Hr]
  · isplitl [Hs]
    · unfold owns
      iexists ((M.access r).write (Elt F) f w Finset.univ)
      isplitr
      · ipureintro; exact View.read_write_univ (v := M.access r) f w
      · iexact Hs
    · iexact Hr
  unfold owns
  iexact H

/-- A piece at some contents, as its elements at some contents. -/
theorem piece_elems (M : Memref sig .tc .vmem s .f32) (r : Rect s) (hr : ∀ a, r.stride a = 1) (hq : r.shape.Squeezes s') (X : s'.Idx → Elt F .f32) :
    (owns (c : Thread nD τ) ((M.slice r hr).squeeze s' hq) fullShare X : sProp 𝕄)
      ⊢ iprop(∃ f, M.view.loc (c : Thread nD τ) ↦[(M.view.slice r).set]{fullShare} f) := by
  unfold owns
  iintro ⟨%f, -, H⟩
  iexists f
  rw [Memref.set_view_squeeze]
  iexact H

/-- A slice of a buffer, read without its unit axes. -/
theorem owns_squeezed (M : Memref sig .tc .vmem s .f32) (r : Rect s) (hr : ∀ a, r.stride a = 1) (hq : r.shape.Squeezes s')
    (hc : r.shape.ShapeCasts s') (X : r.shape.Idx → Elt F .f32) :
    (owns (c : Thread nD τ) (M.slice r hr) fullShare X : sProp 𝕄)
      ⊢ owns (c : Thread nD τ) ((M.slice r hr).squeeze s' hq) fullShare (shapeCast s' X hc) := by
  unfold owns
  iintro ⟨%f, %hf, H⟩
  iexists f
  isplitr
  · ipureintro; rw [Memref.read_squeeze_slice M r hr hq hc f, ← hf]; rfl
  · rw [Memref.set_view_squeeze]; iexact H

variable {T : Type} [Fintype T] [DecidableEq T]

/-- Disjoint pieces at some contents each are their union at some contents. -/
theorem gather_some (M : Memref sig .tc .vmem s .f32) (r : T → Rect s) (hr : ∀ t a, (r t).stride a = 1) (hq : ∀ t, (r t).shape.Squeezes s')
    (hd : ∀ t t', t ≠ t' → Disjoint (r t).set (r t').set) (S : Finset T) :
    (bigSep S (fun t => iprop(∃ X, owns (c : Thread nD τ) ((M.slice (r t) (hr t)).squeeze s' (hq t)) fullShare X)) : sProp 𝕄)
      ⊢ iprop(∃ f, M.view.loc (c : Thread nD τ) ↦[S.biUnion fun t => (M.view.slice (r t)).set]{fullShare} f) := by
  induction S using Finset.induction_on with
  | empty =>
    iintro -
    iexists fun _ => Classical.arbitrary _
    rw [Finset.biUnion_empty, pointsTo_empty]; iempintro
  | insert t S ht ih =>
    have hdS : Disjoint (M.view.slice (r t)).set (S.biUnion fun t => (M.view.slice (r t)).set) :=
      (Finset.disjoint_biUnion_right _ _ _).mpr fun t' ht' => by
        rw [View.set_slice, View.set_slice]; exact (Finset.disjoint_map _).mpr (hd t t' fun e => ht (e ▸ ht'))
    rw [BI.bigSep_insert ht, Finset.biUnion_insert]
    refine (show iprop((∃ X, owns (c : Thread nD τ) ((M.slice (r t) (hr t)).squeeze s' (hq t)) fullShare X) ∗ bigSep S _) ⊢ _ from ?_)
    iintro ⟨⟨%X, Ht⟩, HS⟩
    ihave H := ih $$ HS
    icases H with ⟨%g, HS⟩
    ihave Ht' := (piece_elems c M (r t) (hr t) (hq t) X) $$ Ht
    icases Ht' with ⟨%f, Ht⟩
    iexists _
    iapply (pointsTo_join hdS)
    isplitl [Ht]; · iexact Ht
    iexact HS

/-- Disjoint covering pieces at some contents each are the buffer at some contents. -/
theorem gather_all (M : Memref sig .tc .vmem s .f32) (r : T → Rect s) (hr : ∀ t a, (r t).stride a = 1) (hq : ∀ t, (r t).shape.Squeezes s')
    (hd : ∀ t t', t ≠ t' → Disjoint (r t).set (r t').set) (hcov : Finset.univ.biUnion (fun t => (r t).set) = Finset.univ) :
    (bigSep Finset.univ (fun t => iprop(∃ X, owns (c : Thread nD τ) ((M.slice (r t) (hr t)).squeeze s' (hq t)) fullShare X)) : sProp 𝕄)
      ⊢ iprop(∃ X, owns (c : Thread nD τ) M fullShare X) := by
  refine (gather_some c M r hr hq hd Finset.univ).trans ?_
  have hset : (Finset.univ.biUnion fun t => (M.view.slice (r t)).set) = M.view.set := by
    ext i
    simp only [Finset.mem_biUnion, Finset.mem_univ, true_and]
    constructor
    · rintro ⟨t, ht⟩
      exact View.set_slice_subset _ _ ht
    · intro hi
      obtain ⟨x, -, rfl⟩ := Finset.mem_map.mp hi
      obtain ⟨t, -, hx⟩ := Finset.mem_biUnion.mp (hcov.symm ▸ Finset.mem_univ x)
      exact ⟨t, by rw [View.set_slice]; exact Finset.mem_map_of_mem _ hx⟩
  rw [hset]
  iintro ⟨%f, H⟩
  iexists (M.view.read (Elt F) f)
  unfold owns
  iexists f
  isplitr; · ipureintro; rfl
  iexact H

end Generic

/-! ## The two scratch buffers -/

/-- The accumulator. -/
abbrev accB : Memref sig .tc .vmem S2x256x512 .f32 := Memref.whole cc0_scratch0

/-- The receive buffer. -/
abbrev rcvB : Memref sig .tc .vmem S2x3x256x512 .f32 := Memref.whole cc0_scratch1

/-- Stretches of the same length at different numbers don't meet, -/
theorem apart {m n : ℕ} {a b : Fin n} (h : a ≠ b) : m * a.val + m ≤ m * b.val ∨ m * b.val + m ≤ m * a.val := by
  have h' : a.val ≠ b.val := fun e => h (Fin.ext e)
  rcases Nat.lt_or_gt_of_ne h' with l | l
  · exact .inl ((Nat.mul_succ m a.val).symm.le.trans (Nat.mul_le_mul_left m l))
  · exact .inr ((Nat.mul_succ m b.val).symm.le.trans (Nat.mul_le_mul_left m l))

/-- nor do single places. -/
theorem apart1 {n : ℕ} {a b : Fin n} (h : a ≠ b) : a.val + 1 ≤ b.val ∨ b.val + 1 ≤ a.val := by
  have h' : a.val ≠ b.val := fun e => h (Fin.ext e)
  omega

/-- The accumulator's pieces don't meet, -/
theorem rectA_disjoint : ∀ t t', t ≠ t' → Disjoint (rectA t).set (rectA t').set := by
  intro t t' h
  by_cases h0 : t.1 = t'.1
  · exact Rect.unit_disjoint 1 (apart (m := 128) fun e => h (Prod.ext h0 e))
  · exact Rect.unit_disjoint 0 (apart1 h0)

/-- nor do the receive buffer's. -/
theorem rectR_disjoint : ∀ t t', t ≠ t' → Disjoint (rectR t).set (rectR t').set := by
  intro t t' h
  by_cases h0 : t.1 = t'.1
  · by_cases h1 : t.2.1 = t'.2.1
    · exact Rect.unit_disjoint 2 (apart (m := 128) fun e => h (Prod.ext h0 (Prod.ext h1 e)))
    · exact Rect.unit_disjoint 1 (apart1 h1)
  · exact Rect.unit_disjoint 0 (apart1 h0)

/-- The accumulator's pieces fill it, -/
theorem rectA_cover : Finset.univ.biUnion (fun t => (rectA t).set) = Finset.univ := by
  ext i
  simp only [Finset.mem_biUnion, Finset.mem_univ, true_and, iff_true]
  have h0 : (i 0).val < 2 := (i 0).isLt
  have h1 : (i 1).val < 256 := (i 1).isLt
  have h2 : (i 2).val < 512 := (i 2).isLt
  refine ⟨(⟨(i 0).val, h0⟩, ⟨(i 1).val / 128, by omega⟩), Rect.mem_set_unit.mpr fun a => ?_⟩
  match a with
  | ⟨0, _⟩ => show (i 0).val ≤ (i 0).val ∧ (i 0).val < (i 0).val + 1; omega
  | ⟨1, _⟩ => show 128 * ((i 1).val / 128) ≤ (i 1).val ∧ (i 1).val < 128 * ((i 1).val / 128) + 128; omega
  | ⟨2, _⟩ => show 0 ≤ (i 2).val ∧ (i 2).val < 0 + 512; omega

/-- as the receive buffer's do. -/
theorem rectR_cover : Finset.univ.biUnion (fun t => (rectR t).set) = Finset.univ := by
  ext i
  simp only [Finset.mem_biUnion, Finset.mem_univ, true_and, iff_true]
  have h0 : (i 0).val < 2 := (i 0).isLt
  have h1 : (i 1).val < 3 := (i 1).isLt
  have h2 : (i 2).val < 256 := (i 2).isLt
  have h3 : (i 3).val < 512 := (i 3).isLt
  refine ⟨(⟨(i 0).val, h0⟩, ⟨(i 1).val, h1⟩, ⟨(i 2).val / 128, by omega⟩), Rect.mem_set_unit.mpr fun a => ?_⟩
  match a with
  | ⟨0, _⟩ => show (i 0).val ≤ (i 0).val ∧ (i 0).val < (i 0).val + 1; omega
  | ⟨1, _⟩ => show (i 1).val ≤ (i 1).val ∧ (i 1).val < (i 1).val + 1; omega
  | ⟨2, _⟩ => show 128 * ((i 2).val / 128) ≤ (i 2).val ∧ (i 2).val < 128 * ((i 2).val / 128) + 128; omega
  | ⟨3, _⟩ => show 0 ≤ (i 3).val ∧ (i 3).val < 0 + 512; omega

/-- A piece with and without its leading axis has as many elements. -/
theorem castA : S1x128x512.ShapeCasts S128x512 := by decide

/-- The accumulator, split. -/
theorem scatter_acc (X : S2x256x512.Idx → Elt F .f32) :
    (owns (c : Thread nD τ) accB fullShare X : sProp 𝕄)
      ⊢ bigSep Finset.univ fun t : Fin 2 × Fin 2 =>
          piece c (accM t) (shapeCast S128x512 (fun j => X ((rectA t).emb j)) castA) :=
  (owns_rects (c : Thread nD τ) accB fullShare rectA (fun _ _ => rfl) rectA_disjoint rectA_cover X).trans
    (BI.bigSep_mono fun t _ => owns_squeezed c accB (rectA t) (fun _ => rfl) squeezes_S1x128x512_S128x512 castA _)

/-- The receive buffer, split. -/
theorem scatter_rcv (X : S2x3x256x512.Idx → Elt F .f32) :
    (owns (c : Thread nD τ) rcvB fullShare X : sProp 𝕄)
      ⊢ bigSep Finset.univ fun p : P => iprop(∃ Y, piece c (recvM p) Y) :=
  (owns_rects (c : Thread nD τ) rcvB fullShare rectR (fun _ _ => rfl) rectR_disjoint rectR_cover X).trans
    (BI.bigSep_mono fun t _ =>
      (owns_squeezed c rcvB (rectR t) (fun _ => rfl) squeezes_S1x1x128x512_S128x512 shapeCasts_S1x1x128x512_S128x512 _).trans (exists_intro_trans _ .rfl))

/-- The accumulator, whole again. -/
theorem gather_acc : (bigSep Finset.univ (fun t : Fin 2 × Fin 2 => iprop(∃ Y, piece c (accM t) Y)) : sProp 𝕄)
    ⊢ iprop(∃ X, owns (c : Thread nD τ) accB fullShare X) :=
  gather_all c accB rectA (fun _ _ => rfl) (fun _ => squeezes_S1x128x512_S128x512) rectA_disjoint rectA_cover

/-- The receive buffer, whole again. -/
theorem gather_rcv : (bigSep Finset.univ (fun p : P => iprop(∃ Y, piece c (recvM p) Y)) : sProp 𝕄)
    ⊢ iprop(∃ X, owns (c : Thread nD τ) rcvB fullShare X) :=
  gather_all c rcvB rectR (fun _ _ => rfl) (fun _ => squeezes_S1x1x128x512_S128x512) rectR_disjoint rectR_cover

end Cert.RingProof

end
-- ==== Proof.Ring.Access.lean ====
/-
# Loads and stores of the ring's program

Loading a device's own rows, loading and storing a piece of the receive buffer, storing rows of the result, and
what the sum of a piece and a device's rows is.
-/
module

public import proofs.«01_k».proof.Proof.Ring.Memory

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32) (c : Dev nD)

/-- The buffer that holds the device's matrix. -/
abbrev inB : Memref sig .tc .vmem S512x2048 .f32 := Memref.whole cc0_stg0_0

/-- The buffer that holds the result. -/
abbrev outB : Memref sig .tc .vmem S512x512 .f32 := Memref.whole cc0_stg1_0

/-- The device's own matrix, staged. -/
abbrev inP : sProp 𝕄 := owns (c : Thread nD τ) inB fullShare (xs c)
/-- The result's buffer. -/
abbrev outP (X : S512x512.Idx → Elt F .f32) : sProp 𝕄 := owns (c : Thread nD τ) outB fullShare X

/-- Loading the device's own rows for an addition. -/
theorem step_loadX (d s : Fin 2) (n : ℕ) {off : Fin 2 → Nat} (ho : off = ![256 * d.val + 128 * s.val, 512 * (ck d n c).val])
    {hi : ∀ a, off a + S128x512.size a ≤ S512x2048.size a} {hl : inB.view.LoadsAt (Rect.unit (s := S512x2048) off S128x512.size hi).toLoadRect}
    {α : Type} {k : Vec F S128x512 .f32 → Prog (TpuEff nD τ sig (Elt F) Λ₀ .tc) α} {Q : α → sProp 𝕄} :
    (inP xs c : sProp 𝕄)
      ⊢ iprop((inP xs c -∗ WP c (k (part (xs c) d s (ck d n c))) Q)
          -∗ WP c (.op (.load inB (Rect.unit (s := S512x2048) off S128x512.size hi).toLoadRect hl) k) Q) := by
  subst ho
  exact wp_load_whole c inB (rectX d s (ck d n c)) (xs c)

/-- Loading a piece of the receive buffer. -/
theorem step_loadR (p : P) (X : S128x512.Idx → Elt F .f32) {off : Fin 4 → Nat} (ho : off = ![p.1.val, p.2.1.val, 128 * p.2.2.val, 0])
    {hi : ∀ a, off a + S1x1x128x512.size a ≤ S2x3x256x512.size a}
    {hl : rcvB.view.LoadsAt (Rect.unit (s := S2x3x256x512) off S1x1x128x512.size hi).toLoadRect}
    {α : Type} {k : Vec F S1x1x128x512 .f32 → Prog (TpuEff nD τ sig (Elt F) Λ₀ .tc) α} {Q : α → sProp 𝕄} :
    (piece c (recvM p) X : sProp 𝕄)
      ⊢ iprop((piece c (recvM p) X -∗ WP c (k (shapeCast S1x1x128x512 X shapeCasts_S128x512_S1x1x128x512)) Q)
          -∗ WP c (.op (.load rcvB (Rect.unit (s := S2x3x256x512) off S1x1x128x512.size hi).toLoadRect hl) k) Q) := by
  subst ho
  exact wp_load_piece c rcvB (rectR p) (fun _ => rfl) squeezes_S1x1x128x512_S128x512 shapeCasts_S1x1x128x512_S128x512
    shapeCasts_S128x512_S1x1x128x512 X

/-- Storing a piece of the receive buffer. -/
theorem step_storeR (p : P) (X Y : S128x512.Idx → Elt F .f32) {off : Fin 4 → Nat} (ho : off = ![p.1.val, p.2.1.val, 128 * p.2.2.val, 0])
    {hi : ∀ a, off a + S1x1x128x512.size a ≤ S2x3x256x512.size a} {w : Vec F S1x1x128x512 .f32}
    (hw : shapeCast S128x512 w shapeCasts_S1x1x128x512_S128x512 = Y)
    {hx : (rcvB.access (Rect.unit (s := S2x3x256x512) off S1x1x128x512.size hi)).Stores Finset.univ}
    {hm : (Finset.univ : Finset S1x1x128x512.Idx) = Finset.univ ∨ ∀ a, (Rect.unit (s := S2x3x256x512) off S1x1x128x512.size hi).stride a = 1}
    {α : Type} {k : PUnit → Prog (TpuEff nD τ sig (Elt F) Λ₀ .tc) α} {Q : α → sProp 𝕄} :
    (piece c (recvM p) X : sProp 𝕄)
      ⊢ iprop((piece c (recvM p) Y -∗ WP c (k ⟨⟩) Q)
          -∗ WP c (.op (.store rcvB (Rect.unit (s := S2x3x256x512) off S1x1x128x512.size hi) w Finset.univ hx hm) k) Q) := by
  subst ho hw
  exact wp_store_piece c rcvB (rectR p) (fun _ => rfl) squeezes_S1x1x128x512_S128x512 shapeCasts_S1x1x128x512_S128x512 X w

/-- Loading rows of the result's buffer. -/
theorem step_loadO (X : S512x512.Idx → Elt F .f32) {off : Fin 2 → Nat}
    {hi : ∀ a, off a + S128x512.size a ≤ S512x512.size a} {hl : outB.view.LoadsAt (Rect.unit (s := S512x512) off S128x512.size hi).toLoadRect}
    {α : Type} {k : Vec F S128x512 .f32 → Prog (TpuEff nD τ sig (Elt F) Λ₀ .tc) α} {Q : α → sProp 𝕄} :
    (outP c X : sProp 𝕄)
      ⊢ iprop((outP c X -∗ WP c (k fun j => X ((Rect.unit (s := S512x512) off S128x512.size hi).emb j)) Q)
          -∗ WP c (.op (.load outB (Rect.unit (s := S512x512) off S128x512.size hi).toLoadRect hl) k) Q) :=
  wp_load_whole c outB (Rect.unit (s := S512x512) off S128x512.size hi) X

/-- Storing rows of the result. -/
theorem step_storeO (q : Fin 2 × Fin 2) (X : S512x512.Idx → Elt F .f32) (Y : FVec F S128x512 .f32) {off : Fin 2 → Nat}
    (ho : off = ![256 * q.1.val + 128 * q.2.val, 0])
    {hi : ∀ a, off a + S128x512.size a ≤ S512x512.size a} {w : Vec F S128x512 .f32} (hw : w = Y)
    {hx : (outB.access (Rect.unit (s := S512x512) off S128x512.size hi)).Stores Finset.univ}
    {hm : (Finset.univ : Finset S128x512.Idx) = Finset.univ ∨ ∀ a, (Rect.unit (s := S512x512) off S128x512.size hi).stride a = 1}
    {α : Type} {k : PUnit → Prog (TpuEff nD τ sig (Elt F) Λ₀ .tc) α} {Q : α → sProp 𝕄} :
    (outP c X : sProp 𝕄)
      ⊢ iprop((outP c ((rectO q).overlay X Y) -∗ WP c (k ⟨⟩) Q)
          -∗ WP c (.op (.store outB (Rect.unit (s := S512x512) off S128x512.size hi) w Finset.univ hx hm) k) Q) := by
  subst ho hw
  exact wp_store_owned c outB (rectO q) (fun _ => rfl) X w

/-- A program at its end. -/
theorem step_ret {α : Type} (a : α) (Q : α → sProp 𝕄) : Q a ⊢ WP c (.ret a) Q := by
  unfold WP
  rw [wp_ret]
  iintro H; imodintro; iexact H

/-! ## What an addition stores -/

/-- A piece plus a device's rows, cast to the buffer's shape and back. -/
theorem sum_cast (V Y : FVec F S128x512 .f32) :
    shapeCast S128x512 (shapeCast S1x1x128x512
        (addf (shapeCast S128x512 (shapeCast S1x1x128x512 V shapeCasts_S128x512_S1x1x128x512) shapeCasts_S1x1x128x512_S128x512)
          (shapeCast S128x512 Y shapeCasts_S128x512_S128x512)) shapeCasts_S128x512_S1x1x128x512) shapeCasts_S1x1x128x512_S128x512
      = addf V Y := by
  rw [shapeCast_shapeCast, shapeCast_shapeCast, shapeCast_self]

/-- A piece plus a device's rows. -/
theorem sum_rows (V Y : FVec F S128x512 .f32) :
    addf (shapeCast S128x512 (shapeCast S1x1x128x512 V shapeCasts_S128x512_S1x1x128x512) shapeCasts_S1x1x128x512_S128x512)
        (shapeCast S128x512 Y shapeCasts_S128x512_S128x512) = addf V Y := by
  rw [shapeCast_shapeCast, shapeCast_self]

/-! ## The devices a program names -/

/-- A device number one further on is the neighbour to the right. -/
theorem dev_nxt {k : ℕ} (hk : k < nD) (h : k = (c.val + 1) % 4) : (⟨k, hk⟩ : Dev nD) = tgt 0 c := Fin.ext h

/-- One three further on is the neighbour to the left. -/
theorem dev_prv {k : ℕ} (hk : k < nD) (h : k = (c.val + 3) % 4) : (⟨k, hk⟩ : Dev nD) = tgt 1 c := Fin.ext h

end Cert.RingProof

end
-- ==== Proof.Ring.Start.lean ====
/-
# What the accumulator holds at the start

The device stores its own rows of the first chunk of each direction, 256 rows at a time; each piece of 128 rows then
holds the first value of its direction and half.
-/
module

public import proofs.«01_k».proof.Proof.Ring.Access
public import Idealize.ShloMosaic.Lib.Pointwise

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32) (c : Dev nD)

/-- A half lies inside the accumulator, -/
theorem inbH (d : Fin 2) : ∀ a, (![d.val, 0, 0] : Fin 3 → Nat) a + S1x256x512.size a ≤ S2x256x512.size a := by revert d; decide

/-- and its rows inside the matrix. -/
theorem inbXH (d : Fin 2) (k : Dev nD) : ∀ a, (![256 * d.val, 512 * k.val] : Fin 2 → Nat) a + S256x512.size a ≤ S512x2048.size a := by
  revert d k; decide

/-- A direction's half of the accumulator. -/
abbrev rectH (d : Fin 2) : Rect S2x256x512 := Rect.unit (s := S2x256x512) ![d.val, 0, 0] S1x256x512.size (inbH d)
/-- A direction's rows of the matrix, at a chunk of columns. -/
abbrev rectXH (d : Fin 2) (k : Dev nD) : Rect S512x2048 := Rect.unit (s := S512x2048) ![256 * d.val, 512 * k.val] S256x512.size (inbXH d k)

/-- A direction's rows at its first chunk. -/
def rows (d : Fin 2) : Vec F S256x512 .f32 := fun j => xs c ((rectXH d (ck d 0 c)).emb j)

/-- Loading a direction's rows at its first chunk. -/
theorem step_loadH (d : Fin 2) {off : Fin 2 → Nat} (ho : off = ![256 * d.val, 512 * (ck d 0 c).val])
    {hi : ∀ a, off a + S256x512.size a ≤ S512x2048.size a} {hl : inB.view.LoadsAt (Rect.unit (s := S512x2048) off S256x512.size hi).toLoadRect}
    {α : Type} {k : Vec F S256x512 .f32 → Prog (TpuEff nD τ sig (Elt F) Λ₀ .tc) α} {Q : α → sProp 𝕄} :
    (inP xs c : sProp 𝕄)
      ⊢ iprop((inP xs c -∗ WP c (k (rows xs c d)) Q)
          -∗ WP c (.op (.load inB (Rect.unit (s := S512x2048) off S256x512.size hi).toLoadRect hl) k) Q) := by
  subst ho
  exact wp_load_whole c inB (rectXH d (ck d 0 c)) (xs c)

/-- Loading a half of the accumulator. -/
theorem step_loadA (X : S2x256x512.Idx → Elt F .f32) {off : Fin 3 → Nat}
    {hi : ∀ a, off a + S1x256x512.size a ≤ S2x256x512.size a} {hl : accB.view.LoadsAt (Rect.unit (s := S2x256x512) off S1x256x512.size hi).toLoadRect}
    {α : Type} {k : Vec F S1x256x512 .f32 → Prog (TpuEff nD τ sig (Elt F) Λ₀ .tc) α} {Q : α → sProp 𝕄} :
    (owns (c : Thread nD τ) accB fullShare X : sProp 𝕄)
      ⊢ iprop((owns (c : Thread nD τ) accB fullShare X -∗ WP c (k fun j => X ((Rect.unit (s := S2x256x512) off S1x256x512.size hi).emb j)) Q)
          -∗ WP c (.op (.load accB (Rect.unit (s := S2x256x512) off S1x256x512.size hi).toLoadRect hl) k) Q) :=
  wp_load_whole c accB (Rect.unit (s := S2x256x512) off S1x256x512.size hi) X

/-- Storing a half of the accumulator. -/
theorem step_storeA (d : Fin 2) (X : S2x256x512.Idx → Elt F .f32) {off : Fin 3 → Nat} (ho : off = ![d.val, 0, 0])
    {hi : ∀ a, off a + S1x256x512.size a ≤ S2x256x512.size a} {w : Vec F S1x256x512 .f32}
    {hx : (accB.access (Rect.unit (s := S2x256x512) off S1x256x512.size hi)).Stores Finset.univ}
    {hm : (Finset.univ : Finset S1x256x512.Idx) = Finset.univ ∨ ∀ a, (Rect.unit (s := S2x256x512) off S1x256x512.size hi).stride a = 1}
    {α : Type} {k : PUnit → Prog (TpuEff nD τ sig (Elt F) Λ₀ .tc) α} {Q : α → sProp 𝕄} :
    (owns (c : Thread nD τ) accB fullShare X : sProp 𝕄)
      ⊢ iprop((owns (c : Thread nD τ) accB fullShare ((rectH d).overlay X w) -∗ WP c (k ⟨⟩) Q)
          -∗ WP c (.op (.store accB (Rect.unit (s := S2x256x512) off S1x256x512.size hi) w Finset.univ hx hm) k) Q) := by
  subst ho
  exact wp_store_owned c accB (rectH d) (fun _ => rfl) X w

/-- The accumulator after the two stores. -/
def acc0 (A : S2x256x512.Idx → Elt F .f32) : S2x256x512.Idx → Elt F .f32 :=
  (rectH 1).overlay ((rectH 0).overlay A (k0_pay1 (rows xs c 0))) (k0_pay3 (k0_pay2 (rows xs c 1)))

/-- The two first stores leave this in the accumulator. -/
theorem acc0_eq (A : S2x256x512.Idx → Elt F .f32) :
    (rectH 1).overlay ((rectH 0).overlay A (k0_pay1 (rows xs c 0))) (k0_pay3 (k0_pay2 (rows xs c 1))) = acc0 xs c A := rfl

/-- Each half of it holds the device's rows. -/
theorem acc0_half (A : S2x256x512.Idx → Elt F .f32) (d : Fin 2) (j : S1x256x512.Idx) :
    acc0 xs c A ((rectH d).emb j) = shapeCast S1x256x512 (rows xs c d) shapeCasts_S256x512_S1x256x512 j := by
  have hd : d = 0 ∨ d = 1 := by revert d; decide
  rcases hd with rfl | rfl
  · have hn : (rectH 0).emb j ∉ (rectH 1).set := by
      intro h
      have h' := (Rect.mem_set_unit.mp h 0).1
      have hj : (j 0).val < 1 := (j 0).isLt
      have hv : (((rectH 0).emb j) 0).val = 0 + 1 * (j 0).val := rfl
      have h'' : 1 ≤ (((rectH 0).emb j) 0).val := h'
      omega
    unfold acc0
    rw [Rect.overlay_of_not_mem _ _ _ hn]
    refine (Rect.overlay_emb (rectH 0) A _ j).trans ?_
    unfold k0_pay1
    rw [shapeCast_self]
  · unfold acc0
    refine (Rect.overlay_emb (rectH 1) _ _ j).trans ?_
    unfold k0_pay3 k0_pay2
    rw [shapeCast_self]

/-- Each piece of the accumulator then holds its direction's and half's first value. -/
theorem acc0_piece (A : S2x256x512.Idx → Elt F .f32) (d s : Fin 2) :
    shapeCast S128x512 (fun j => acc0 xs c A ((rectA (d, s)).emb j)) castA = val xs d s 0 c := by
  have he (j : S1x128x512.Idx) : acc0 xs c A ((rectA (d, s)).emb j)
      = part (xs c) d s (ck d 0 c) (ix2 (j 1) (j 2)) := by
    idx_vars j
    have hs : s.val < 2 := s.isLt
    have h1 : (rectA (d, s)).emb (ix3 j0 j1 j2) = (rectH d).emb (ix3 j0 (⟨128 * s.val + j1.val, by omega⟩ : Fin 256) j2) := by
      funext a; apply Fin.ext
      match a with
      | ⟨0, _⟩ => rfl
      | ⟨1, _⟩ => show 128 * s.val + 1 * j1.val = 0 + 1 * (128 * s.val + j1.val); omega
      | ⟨2, _⟩ => rfl
    rw [h1, acc0_half]
    pointwise [rows]
    unfold part
    congr 1
    funext a; apply Fin.ext
    match a with
    | ⟨0, _⟩ => show 256 * d.val + 1 * (128 * s.val + j1.val) = 256 * d.val + 128 * s.val + 1 * j1.val; omega
    | ⟨1, _⟩ => rfl
  refine (congrArg (fun z => shapeCast S128x512 z castA) (funext he)).trans ?_
  funext j
  idx_vars j
  pointwise
  rfl

end Cert.RingProof

end
-- ==== Proof.Ring.PartsS.lean ====
/-
# The first parts

What parts 1 and 2 of the program do: the barrier, whose signals hand out the receive buffer; the device's own first
rows, stored in the accumulator; and the first transfers.
-/
module

public import proofs.«01_k».proof.Proof.Ring.Start

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32) (K : GSem nD τ sig → ℕ) (c : Dev nD)
variable {hi : inB.IsWhole} {ho : outB.IsWhole} {ha : accB.IsWhole} {hr : rcvB.IsWhole}

/-- What a device brings to the barrier: its position and its credit, the duty of each neighbour's barrier it pays
    with, and what it owes. -/
def barIn : sProp 𝕄 :=
  iprop(atPos ER (barCell c) 0 ∅ 0 ∗ cred (tallyAt (barCell c) () 2)
    ∗ dutyTok ER (barCell (tgt 1 c)) 0 0 ∗ reached ER (barCell (tgt 1 c)) 0
    ∗ dutyTok ER (barCell (tgt 0 c)) 0 1 ∗ reached ER (barCell (tgt 0 c)) 0
    ∗ ∃ W, owes (c : Thread nD τ) (O₀ c) W)

/-- The barrier: the device gives its receive pieces of each direction to the device that writes them, and gets the
    pieces it will write. -/
theorem step_signal (d : Fin 2) (O : CellTallies nD τ sig Unit) {n : Dev nD} (hn : n = tgt (1 - d) c)
    {W : Waits sig Unit} {α : Type} {k : PUnit → Prog (TpuEff nD τ sig (Elt F) Λ₀ .tc) α} {Q : α → sProp 𝕄} :
    iprop(Env xs K ∗ owes (c : Thread nD τ) (O + tallyAt (barCell (tgt (1 - d) c)) () 1) W
        ∗ dutyTok ER (barCell (tgt (1 - d) c)) 0 d ∗ barPay (tgt (1 - d) c) d ∗ reached ER (barCell (tgt (1 - d) c)) 0)
      ⊢ iprop((owes (c : Thread nD τ) O W -∗ WP c (k ⟨⟩) Q)
          -∗ WP c (.op (.semSignal (n : Thread nD τ) barS 1) k) Q) := by
  subst hn
  unfold Env
  iintro ⟨⟨#HI, #Hlev⟩, HO, Ht, Hp, #Hr⟩ Hk
  ihave #HIb := (inv_at xs K (bar_mem (tgt (1 - d) c))) $$ HI
  iapply (Rounds.wp_signal 𝒱₀ ER (Rd xs) (c : Thread nD τ) none (dst := ((tgt (1 - d) c : Dev nD) : Thread nD τ)) (sem := barS) (r := 0) (d := d)
      (κ := K (barCell (tgt (1 - d) c))) (by rw [duties_bar]; exact Finset.mem_univ _) (amount_bar xs (tgt (1 - d) c) d) () O rfl)
    $$ [HO Ht Hp]
  · isplitr; · iexact HIb
    isplitl [HO]; · iexact HO
    isplitl [Ht]; · iexact Ht
    isplitl [Hp]; · rw [payload_bar]; iexact Hp
    iexact Hr
  iexact Hk

/-- Waiting for the barrier: both neighbours' pieces come. -/
theorem step_barrier {W : Waits sig Unit} {α : Type} {k : PUnit → Prog (TpuEff nD τ sig (Elt F) Λ₀ .tc) α} {Q : α → sProp 𝕄} :
    iprop(Env xs K ∗ owes (c : Thread nD τ) (OL c order) W ∗ atPos ER (barCell c) 0 ∅ 0 ∗ cred (tallyAt (barCell c) () 2))
      ⊢ iprop(((ow c order ∗ semVal (barCell c) 0 ∗ barPay c 0 ∗ barPay c 1) -∗ WP c (k ⟨⟩) Q)
          -∗ WP c (.op (.semWait barS 2) k) Q) := by
  unfold Env ow
  iintro ⟨⟨#HI, #Hlev⟩, HO, Hat, Hc⟩ Hk
  ihave #HIb := (inv_at xs K (bar_mem c)) $$ HI
  iapply (Rounds.wp_wait_rest_token 𝒱₀ ER (Rd xs) (c : Thread nD τ) none (κ := K (barCell c))
      (wpE_semWait_eq 𝒱₀ (c : Thread nD τ) none Set.univ) (Set.mem_univ _) () (O := OL c order) (W := W) (R := 0) (m := 0) (T := ∅)
      ((Nat.zero_add 2).trans (expect_bar xs c).symm)) $$ [Hc HO Hat]
  · isplitr; · iexact HIb
    isplitl [Hc]; · iexact Hc
    isplitl [HO]; · iexact HO
    isplitr; · iapply (mayWait_bar c order); iexact Hlev
    iexact Hat
  iintro ⟨HO, Hat, -, Hpay⟩
  ihave Hp := (Entails.of_eq (rest_bar xs c)) $$ Hpay
  icases Hp with ⟨Hp0, Hp1⟩
  iapply (fupd_wp frame (wpE (defs₀ (F := F)) 𝒱₀ (c : Thread nD τ) none) Set.univ (k ⟨⟩) Q)
  imod (close xs (K (barCell c)) (barCell c)) $$ [Hat] with H0
  · isplitr; · iexact HIb
    iexact Hat
  imodintro
  iapply Hk
  isplitl [HO]; · iexists _; iexact HO
  isplitl [H0]; · iexact H0
  isplitl [Hp0]; · iexact Hp0
  iexact Hp1

/-- Part 1: the barrier, and the device's first rows of direction 0 in the accumulator. -/
theorem part1_run (A : S2x256x512.Idx → Elt F .f32)
    (Kt : (Σ' (d0 : Dev nD) (v2 : BitVec 32) (v5 : BitVec 32) (v7 : BitVec 32), FVec F S256x512 .f32) → sProp 𝕄) :
    iprop(Env xs K ∗ (barIn c ∗ barPay (tgt 1 c) 0 ∗ barPay (tgt 0 c) 1 ∗ inP xs c ∗ owns (c : Thread nD τ) accB fullShare A)
        ∗ (∀ v2 : BitVec 32, ∀ v5 : BitVec 32, ∀ v7 : BitVec 32,
            (ow c order ∗ semVal (barCell c) 0 ∗ barPay c 0 ∗ barPay c 1 ∗ inP xs c
              ∗ owns (c : Thread nD τ) accB fullShare ((rectH 0).overlay A (k0_pay1 (rows xs c 0))))
            -∗ Kt ⟨c, v2, v5, v7, k0_pay2 (rows xs c 1)⟩))
      ⊢ WP c (k0_part1 (F := F) inB hi outB ho accB ha rcvB hr cc0_scratch2 cc0_scratch3) Kt := by
  simp only [k0_part1_eq_skeleton]
  unfold k0_part1_skel
  simp only [semSignalWord, semWaitWord, Prog.lift, Prog.bind_op, Prog.bind_ret, Prog.pure_eq_ret, wp_deviceId]
  unfold barIn
  iintro ⟨#HE, ⟨⟨Hat, Hc, Ht1, #Hr1, Ht0, #Hr0, ⟨%W, HO⟩⟩, Hp1, Hp0, X, HA⟩, Hk⟩
  iapply (step_signal xs K c 0 (OL c order + tallyAt (barCell (tgt 0 c)) () 1) (dev_prv c _ (k0_dev1_eq c))) $$ [HO Ht1 Hp1]
  · isplitr; · iexact HE
    isplitl [HO]; · iexact HO
    isplitl [Ht1]; · iexact Ht1
    isplitl [Hp1]; · iexact Hp1
    iexact Hr1
  iintro HO
  iapply (step_signal xs K c 1 (OL c order) (dev_nxt c _ (k0_dev2_eq c))) $$ [HO Ht0 Hp0]
  · isplitr; · iexact HE
    isplitl [HO]; · iexact HO
    isplitl [Ht0]; · iexact Ht0
    isplitl [Hp0]; · iexact Hp0
    iexact Hr0
  iintro HO
  iapply (step_barrier xs K c) $$ [HO Hat Hc]
  · isplitr; · iexact HE
    isplitl [HO]; · iexact HO
    isplitl [Hat]; · iexact Hat
    iexact Hc
  iintro ⟨HO, H0, Hq0, Hq1⟩
  iapply (step_loadH xs c 0 ((k0_off1_eq c).trans (by revert c; decide))) $$ [X]
  · iexact X
  iintro X
  iapply (step_loadA c A) $$ [HA]
  · iexact HA
  iintro HA
  iapply (step_storeA c 0 A rfl) $$ [HA]
  · iexact HA
  iintro HA
  iapply (step_loadH xs c 1 ((k0_off2_eq c).trans (by revert c; decide))) $$ [X]
  · iexact X
  iintro X
  iapply (step_ret c _ Kt)
  iapply Hk
  isplitl [HO]; · iexact HO
  isplitl [H0]; · iexact H0
  isplitl [Hq0]; · iexact Hq0
  isplitl [Hq1]; · iexact Hq1
  isplitl [X]; · iexact X
  iexact HA

/-- The accumulator's pieces, as the first transfers read them. -/
theorem acc0_pieces (A : S2x256x512.Idx → Elt F .f32) :
    (owns (c : Thread nD τ) accB fullShare (acc0 xs c A) : sProp 𝕄)
      ⊢ iprop(piece c (srcM (0, 0, 0)) (val xs 0 0 0 c) ∗ piece c (srcM (1, 0, 0)) (val xs 1 0 0 c)
          ∗ piece c (srcM (0, 0, 1)) (val xs 0 1 0 c) ∗ piece c (srcM (1, 0, 1)) (val xs 1 1 0 c)) := by
  refine (scatter_acc c (acc0 xs c A)).trans ?_
  rw [BI.bigSep_congr (Ψ := fun t : Fin 2 × Fin 2 => piece c (accM t) (val xs t.1 t.2 0 c))
      (fun t _ => congrArg (piece c (accM t)) (acc0_piece xs c A t.1 t.2)),
    bigSep_univ_eq_bigSepL [((0 : Fin 2), (0 : Fin 2)), (1, 0), (0, 1), (1, 1)] (by decide) (by decide)]
  exact .rfl

/-- Part 2: the device's first rows of direction 1 in the accumulator, and the first half's first transfers. -/
theorem part2_run (v5 v7 : BitVec 32) (A : S2x256x512.Idx → Elt F .f32) (Kt : PUnit → sProp 𝕄) :
    iprop(Env xs K ∗ (owns (c : Thread nD τ) accB fullShare ((rectH 0).overlay A (k0_pay1 (rows xs c 0))) ∗ ow c order
          ∗ (mayStart c (0, 0, 0) ∗ target c (0, 0, 0)) ∗ (mayStart c (1, 0, 0) ∗ target c (1, 0, 0)))
        ∗ ((ow c [(0, 0, 1), (1, 0, 1), (0, 1, 0), (1, 1, 0), (0, 1, 1), (1, 1, 1), (0, 2, 0), (1, 2, 0), (0, 2, 1), (1, 2, 1)]
            ∗ sent c (0, 0, 0) ∗ sent c (1, 0, 0)
            ∗ piece c (srcM (0, 0, 1)) (val xs 0 1 0 c) ∗ piece c (srcM (1, 0, 1)) (val xs 1 1 0 c)) -∗ Kt ⟨⟩))
      ⊢ WP c (k0_part2 (F := F) inB hi outB ho accB ha rcvB hr cc0_scratch2 cc0_scratch3 c v5 v7 (k0_pay2 (rows xs c 1))) Kt := by
  simp only [k0_part2_eq_skeleton]
  unfold k0_part2_skel
  simp only [Prog.lift, Prog.bind_op, Prog.bind_ret, Prog.pure_eq_ret]
  iintro ⟨#HE, ⟨HA, O, M0, M1⟩, Hk⟩
  iapply (step_loadA c _) $$ [HA]
  · iexact HA
  iintro HA
  iapply (step_storeA c 1 _ rfl) $$ [HA]
  · iexact HA
  iintro HA
  ihave HA := ((Entails.of_eq (congrArg (owns (c : Thread nD τ) accB fullShare) (acc0_eq xs c A))).trans (acc0_pieces xs c A)) $$ HA
  icases HA with ⟨A00, A10, A01, A11⟩
  unfold order
  iapply (step_send xs K c (0, 0, 0) [(1, 0, 0), (0, 0, 1), (1, 0, 1), (0, 1, 0), (1, 1, 0), (0, 1, 1), (1, 1, 1), (0, 2, 0), (1, 2, 0), (0, 2, 1), (1, 2, 1)]
      (dev_nxt c _ (k0_dev3_eq c)) rfl rfl rfl rfl) $$ [A00 M0 O]
  · isplitr; · iexact HE
    isplitl [A00]; · iexact A00
    isplitl [M0]; · iexact M0
    iexact O
  iintro ⟨T0, O⟩
  iapply (step_send xs K c (1, 0, 0) [(0, 0, 1), (1, 0, 1), (0, 1, 0), (1, 1, 0), (0, 1, 1), (1, 1, 1), (0, 2, 0), (1, 2, 0), (0, 2, 1), (1, 2, 1)]
      (dev_prv c _ (k0_dev4_eq c)) rfl rfl rfl rfl) $$ [A10 M1 O]
  · isplitr; · iexact HE
    isplitl [A10]; · iexact A10
    isplitl [M1]; · iexact M1
    iexact O
  iintro ⟨T1, O⟩
  iapply (step_ret c _ Kt)
  iapply Hk
  isplitl [O]; · iexact O
  isplitl [T0]; · iexact T0
  isplitl [T1]; · iexact T1
  isplitl [A01]; · iexact A01
  iexact A11

end Cert.RingProof

end
-- ==== Proof.Ring.PartsA.lean ====
/-
# The first hop's parts

What each of parts 3 to 8 of the program does: the first transfers land, their sums are stored, and the second
transfers start.
-/
module

public import proofs.«01_k».proof.Proof.Ring.Access

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32) (K : GSem nD τ sig → ℕ) (c : Dev nD)
variable {hi : inB.IsWhole} {ho : outB.IsWhole} {ha : accB.IsWhole} {hr : rcvB.IsWhole}

/-- Part 3: the device starts transfer (0, 0, 1); starts transfer (1, 0, 1). -/
theorem part3_run (v5 v7 : BitVec 32) (Kt : (BitVec 32) → sProp 𝕄) :
    iprop(Env xs K ∗ (piece c (srcM (0, 0, 1)) (val xs 0 1 0 c) ∗ (mayStart c (0, 0, 1) ∗ target c (0, 0, 1)) ∗ ow c [(0, 0, 1), (1, 0, 1), (0, 1, 0), (1, 1, 0), (0, 1, 1), (1, 1, 1), (0, 2, 0), (1, 2, 0), (0, 2, 1), (1, 2, 1)] ∗ piece c (srcM (1, 0, 1)) (val xs 1 1 0 c) ∗ (mayStart c (1, 0, 1) ∗ target c (1, 0, 1)))
        ∗ (∀ w : BitVec 32, (ow c [(0, 1, 0), (1, 1, 0), (0, 1, 1), (1, 1, 1), (0, 2, 0), (1, 2, 0), (0, 2, 1), (1, 2, 1)] ∗ sent c (0, 0, 1) ∗ sent c (1, 0, 1)) -∗ Kt w))
      ⊢ WP c (k0_part3 (F := F) inB hi outB ho accB ha rcvB hr cc0_scratch2 cc0_scratch3 c v5 v7) Kt := by
  simp only [k0_part3_eq_skeleton]
  unfold k0_part3_skel
  simp only [Prog.lift, Prog.bind_op, Prog.bind_ret, Prog.pure_eq_ret]
  iintro ⟨#HE, ⟨A01, M001, O, A11, M101⟩, Hk⟩
  iapply (step_send xs K c (0, 0, 1) [(1, 0, 1), (0, 1, 0), (1, 1, 0), (0, 1, 1), (1, 1, 1), (0, 2, 0), (1, 2, 0), (0, 2, 1), (1, 2, 1)] (dev_nxt c _ (k0_dev5_eq c)) rfl rfl rfl rfl) $$ [A01 M001 O]
  · isplitr; · iexact HE
    isplitl [A01]; · iexact A01
    isplitl [M001]; · iexact M001
    iexact O
  iintro ⟨T001, O⟩
  iapply (step_send xs K c (1, 0, 1) [(0, 1, 0), (1, 1, 0), (0, 1, 1), (1, 1, 1), (0, 2, 0), (1, 2, 0), (0, 2, 1), (1, 2, 1)] (dev_prv c _ (k0_dev6_eq c)) rfl rfl rfl rfl) $$ [A11 M101 O]
  · isplitr; · iexact HE
    isplitl [A11]; · iexact A11
    isplitl [M101]; · iexact M101
    iexact O
  iintro ⟨T101, O⟩
  iapply (step_ret c _ Kt)
  iapply Hk
  isplitl [O]; · iexact O
  isplitl [T001]; · iexact T001
  iexact T101

/-- Part 4: the device waits for (0, 0, 0) to land; reads its own rows for addition 1 of direction 0, half 0; stores the sum over the piece of (0, 0, 0). -/
theorem part4_run (v2 v7 w0 : BitVec 32) (Kt : PUnit → sProp 𝕄) :
    iprop(Env xs K ∗ (mayLand c (0, 0, 0) ∗ ow c [(0, 1, 0), (1, 1, 0), (0, 1, 1), (1, 1, 1), (0, 2, 0), (1, 2, 0), (0, 2, 1), (1, 2, 1)] ∗ inP xs c)
        ∗ ((ow c [(0, 1, 0), (1, 1, 0), (0, 1, 1), (1, 1, 1), (0, 2, 0), (1, 2, 0), (0, 2, 1), (1, 2, 1)] ∗ piece c (recvM (0, 0, 0)) (val xs 0 0 1 c) ∗ semVal (rcvCell c (0, 0, 0)) 0 ∗ inP xs c) -∗ Kt ⟨⟩))
      ⊢ WP c (k0_part4 (F := F) inB hi outB ho accB ha rcvB hr cc0_scratch2 cc0_scratch3 c v2 v7 w0) Kt := by
  simp only [k0_part4_eq_skeleton]
  unfold k0_part4_skel
  simp only [Prog.lift, Prog.bind_op, Prog.bind_ret, Prog.pure_eq_ret]
  iintro ⟨#HE, ⟨L000, O, X⟩, Hk⟩
  iapply (step_recv xs K c (0, 0, 0) [(0, 1, 0), (1, 1, 0), (0, 1, 1), (1, 1, 1), (0, 2, 0), (1, 2, 0), (0, 2, 1), (1, 2, 1)] (by decide) rfl rfl) $$ [L000 O]
  · isplitr; · iexact HE
    isplitl [L000]; · iexact L000
    iexact O
  iintro ⟨R000, Z000, O⟩
  iapply (step_loadX xs c 0 0 1 ((k0_off3_eq c 2).trans (by revert c; decide))) $$ [X]
  · iexact X
  iintro X
  iapply (step_loadR c (0, 0, 0) (val xs 0 0 0 (src 0 c)) rfl) $$ [R000]
  · iexact R000
  iintro R000
  iapply (step_loadR c (0, 0, 0) (val xs 0 0 0 (src 0 c)) rfl) $$ [R000]
  · iexact R000
  iintro R000
  iapply (step_storeR c (0, 0, 0) (val xs 0 0 0 (src 0 c)) (val xs 0 0 1 c) rfl
    (by unfold k0_pay4; exact sum_cast _ _)) $$ [R000]
  · iexact R000
  iintro R000
  iapply (step_ret c _ Kt)
  iapply Hk
  isplitl [O]; · iexact O
  isplitl [R000]; · iexact R000
  isplitl [Z000]; · iexact Z000
  iexact X

/-- Part 5: the device starts transfer (0, 1, 0); waits for (1, 0, 0) to land; reads its own rows for addition 1 of direction 1, half 0; stores the sum over the piece of (1, 0, 0). -/
theorem part5_run (v2 v5 : BitVec 32) (Kt : PUnit → sProp 𝕄) :
    iprop(Env xs K ∗ (piece c (srcM (0, 1, 0)) (val xs 0 0 1 c) ∗ (mayStart c (0, 1, 0) ∗ target c (0, 1, 0)) ∗ ow c [(0, 1, 0), (1, 1, 0), (0, 1, 1), (1, 1, 1), (0, 2, 0), (1, 2, 0), (0, 2, 1), (1, 2, 1)] ∗ mayLand c (1, 0, 0) ∗ inP xs c)
        ∗ ((ow c [(1, 1, 0), (0, 1, 1), (1, 1, 1), (0, 2, 0), (1, 2, 0), (0, 2, 1), (1, 2, 1)] ∗ sent c (0, 1, 0) ∗ piece c (recvM (1, 0, 0)) (val xs 1 0 1 c) ∗ semVal (rcvCell c (1, 0, 0)) 0 ∗ inP xs c) -∗ Kt ⟨⟩))
      ⊢ WP c (k0_part5 (F := F) inB hi outB ho accB ha rcvB hr cc0_scratch2 cc0_scratch3 c v2 v5) Kt := by
  simp only [k0_part5_eq_skeleton]
  unfold k0_part5_skel
  simp only [Prog.lift, Prog.bind_op, Prog.bind_ret, Prog.pure_eq_ret]
  iintro ⟨#HE, ⟨R000, M010, O, L100, X⟩, Hk⟩
  iapply (step_send xs K c (0, 1, 0) [(1, 1, 0), (0, 1, 1), (1, 1, 1), (0, 2, 0), (1, 2, 0), (0, 2, 1), (1, 2, 1)] (dev_nxt c _ (k0_dev7_eq c)) rfl rfl rfl rfl) $$ [R000 M010 O]
  · isplitr; · iexact HE
    isplitl [R000]; · iexact R000
    isplitl [M010]; · iexact M010
    iexact O
  iintro ⟨T010, O⟩
  iapply (step_recv xs K c (1, 0, 0) [(1, 1, 0), (0, 1, 1), (1, 1, 1), (0, 2, 0), (1, 2, 0), (0, 2, 1), (1, 2, 1)] (by decide) rfl rfl) $$ [L100 O]
  · isplitr; · iexact HE
    isplitl [L100]; · iexact L100
    iexact O
  iintro ⟨R100, Z100, O⟩
  iapply (step_loadX xs c 1 0 1 ((k0_off4_eq c 0).trans (by revert c; decide))) $$ [X]
  · iexact X
  iintro X
  iapply (step_loadR c (1, 0, 0) (val xs 1 0 0 (src 1 c)) rfl) $$ [R100]
  · iexact R100
  iintro R100
  iapply (step_loadR c (1, 0, 0) (val xs 1 0 0 (src 1 c)) rfl) $$ [R100]
  · iexact R100
  iintro R100
  iapply (step_storeR c (1, 0, 0) (val xs 1 0 0 (src 1 c)) (val xs 1 0 1 c) rfl
    (by unfold k0_pay5; exact sum_cast _ _)) $$ [R100]
  · iexact R100
  iintro R100
  iapply (step_ret c _ Kt)
  iapply Hk
  isplitl [O]; · iexact O
  isplitl [T010]; · iexact T010
  isplitl [R100]; · iexact R100
  isplitl [Z100]; · iexact Z100
  iexact X

/-- Part 6: the device starts transfer (1, 1, 0); waits for (0, 0, 1) to land; reads its own rows for addition 1 of direction 0, half 1. -/
theorem part6_run (v2 v5 v7 : BitVec 32) (Kt : (FVec F S128x512 .f32) → sProp 𝕄) :
    iprop(Env xs K ∗ (piece c (srcM (1, 1, 0)) (val xs 1 0 1 c) ∗ (mayStart c (1, 1, 0) ∗ target c (1, 1, 0)) ∗ ow c [(1, 1, 0), (0, 1, 1), (1, 1, 1), (0, 2, 0), (1, 2, 0), (0, 2, 1), (1, 2, 1)] ∗ mayLand c (0, 0, 1) ∗ inP xs c)
        ∗ ((ow c [(0, 1, 1), (1, 1, 1), (0, 2, 0), (1, 2, 0), (0, 2, 1), (1, 2, 1)] ∗ sent c (1, 1, 0) ∗ piece c (recvM (0, 0, 1)) (val xs 0 1 0 (src 0 c)) ∗ semVal (rcvCell c (0, 0, 1)) 0 ∗ inP xs c) -∗ Kt (k0_pay6 (part (xs c) 0 1 (ck 0 1 c)))))
      ⊢ WP c (k0_part6 (F := F) inB hi outB ho accB ha rcvB hr cc0_scratch2 cc0_scratch3 c v2 v5 v7) Kt := by
  simp only [k0_part6_eq_skeleton]
  unfold k0_part6_skel
  simp only [Prog.lift, Prog.bind_op, Prog.bind_ret, Prog.pure_eq_ret]
  iintro ⟨#HE, ⟨R100, M110, O, L001, X⟩, Hk⟩
  iapply (step_send xs K c (1, 1, 0) [(0, 1, 1), (1, 1, 1), (0, 2, 0), (1, 2, 0), (0, 2, 1), (1, 2, 1)] (dev_prv c _ (k0_dev8_eq c)) rfl rfl rfl rfl) $$ [R100 M110 O]
  · isplitr; · iexact HE
    isplitl [R100]; · iexact R100
    isplitl [M110]; · iexact M110
    iexact O
  iintro ⟨T110, O⟩
  iapply (step_recv xs K c (0, 0, 1) [(0, 1, 1), (1, 1, 1), (0, 2, 0), (1, 2, 0), (0, 2, 1), (1, 2, 1)] (by decide) rfl rfl) $$ [L001 O]
  · isplitr; · iexact HE
    isplitl [L001]; · iexact L001
    iexact O
  iintro ⟨R001, Z001, O⟩
  iapply (step_loadX xs c 0 1 1 ((k0_off5_eq c 2).trans (by revert c; decide))) $$ [X]
  · iexact X
  iintro X
  iapply (step_ret c _ Kt)
  iapply Hk
  isplitl [O]; · iexact O
  isplitl [T110]; · iexact T110
  isplitl [R001]; · iexact R001
  isplitl [Z001]; · iexact Z001
  iexact X

/-- Part 7: the device stores the sum over the piece of (0, 0, 1); starts transfer (0, 1, 1). -/
theorem part7_run (v5 v7 : BitVec 32) (Kt : PUnit → sProp 𝕄) :
    iprop(Env xs K ∗ (piece c (recvM (0, 0, 1)) (val xs 0 1 0 (src 0 c)) ∗ (mayStart c (0, 1, 1) ∗ target c (0, 1, 1)) ∗ ow c [(0, 1, 1), (1, 1, 1), (0, 2, 0), (1, 2, 0), (0, 2, 1), (1, 2, 1)])
        ∗ ((ow c [(1, 1, 1), (0, 2, 0), (1, 2, 0), (0, 2, 1), (1, 2, 1)] ∗ sent c (0, 1, 1)) -∗ Kt ⟨⟩))
      ⊢ WP c (k0_part7 (F := F) inB hi outB ho accB ha rcvB hr cc0_scratch2 cc0_scratch3 c v5 v7 (k0_pay6 (part (xs c) 0 1 (ck 0 1 c)))) Kt := by
  simp only [k0_part7_eq_skeleton]
  unfold k0_part7_skel
  simp only [Prog.lift, Prog.bind_op, Prog.bind_ret, Prog.pure_eq_ret]
  iintro ⟨#HE, ⟨R001, M011, O⟩, Hk⟩
  iapply (step_loadR c (0, 0, 1) (val xs 0 1 0 (src 0 c)) rfl) $$ [R001]
  · iexact R001
  iintro R001
  iapply (step_loadR c (0, 0, 1) (val xs 0 1 0 (src 0 c)) rfl) $$ [R001]
  · iexact R001
  iintro R001
  iapply (step_storeR c (0, 0, 1) (val xs 0 1 0 (src 0 c)) (val xs 0 1 1 c) rfl
    (by unfold k0_pay7 k0_pay6; exact sum_cast _ _)) $$ [R001]
  · iexact R001
  iintro R001
  iapply (step_send xs K c (0, 1, 1) [(1, 1, 1), (0, 2, 0), (1, 2, 0), (0, 2, 1), (1, 2, 1)] (dev_nxt c _ (k0_dev9_eq c)) rfl rfl rfl rfl) $$ [R001 M011 O]
  · isplitr; · iexact HE
    isplitl [R001]; · iexact R001
    isplitl [M011]; · iexact M011
    iexact O
  iintro ⟨T011, O⟩
  iapply (step_ret c _ Kt)
  iapply Hk
  isplitl [O]; · iexact O
  iexact T011

/-- Part 8: the device waits for (1, 0, 1) to land; reads its own rows for addition 1 of direction 1, half 1; stores the sum over the piece of (1, 0, 1); starts transfer (1, 1, 1). -/
theorem part8_run (v2 v5 : BitVec 32) (Kt : PUnit → sProp 𝕄) :
    iprop(Env xs K ∗ (mayLand c (1, 0, 1) ∗ ow c [(1, 1, 1), (0, 2, 0), (1, 2, 0), (0, 2, 1), (1, 2, 1)] ∗ inP xs c ∗ (mayStart c (1, 1, 1) ∗ target c (1, 1, 1)))
        ∗ ((ow c [(0, 2, 0), (1, 2, 0), (0, 2, 1), (1, 2, 1)] ∗ semVal (rcvCell c (1, 0, 1)) 0 ∗ inP xs c ∗ sent c (1, 1, 1)) -∗ Kt ⟨⟩))
      ⊢ WP c (k0_part8 (F := F) inB hi outB ho accB ha rcvB hr cc0_scratch2 cc0_scratch3 c v2 v5) Kt := by
  simp only [k0_part8_eq_skeleton]
  unfold k0_part8_skel
  simp only [Prog.lift, Prog.bind_op, Prog.bind_ret, Prog.pure_eq_ret]
  iintro ⟨#HE, ⟨L101, O, X, M111⟩, Hk⟩
  iapply (step_recv xs K c (1, 0, 1) [(1, 1, 1), (0, 2, 0), (1, 2, 0), (0, 2, 1), (1, 2, 1)] (by decide) rfl rfl) $$ [L101 O]
  · isplitr; · iexact HE
    isplitl [L101]; · iexact L101
    iexact O
  iintro ⟨R101, Z101, O⟩
  iapply (step_loadX xs c 1 1 1 ((k0_off6_eq c 0).trans (by revert c; decide))) $$ [X]
  · iexact X
  iintro X
  iapply (step_loadR c (1, 0, 1) (val xs 1 1 0 (src 1 c)) rfl) $$ [R101]
  · iexact R101
  iintro R101
  iapply (step_loadR c (1, 0, 1) (val xs 1 1 0 (src 1 c)) rfl) $$ [R101]
  · iexact R101
  iintro R101
  iapply (step_storeR c (1, 0, 1) (val xs 1 1 0 (src 1 c)) (val xs 1 1 1 c) rfl
    (by unfold k0_pay8; exact sum_cast _ _)) $$ [R101]
  · iexact R101
  iintro R101
  iapply (step_send xs K c (1, 1, 1) [(0, 2, 0), (1, 2, 0), (0, 2, 1), (1, 2, 1)] (dev_prv c _ (k0_dev10_eq c)) rfl rfl rfl rfl) $$ [R101 M111 O]
  · isplitr; · iexact HE
    isplitl [R101]; · iexact R101
    isplitl [M111]; · iexact M111
    iexact O
  iintro ⟨T111, O⟩
  iapply (step_ret c _ Kt)
  iapply Hk
  isplitl [O]; · iexact O
  isplitl [Z101]; · iexact Z101
  isplitl [X]; · iexact X
  iexact T111

end Cert.RingProof

end
-- ==== Proof.Ring.PartsB.lean ====
/-
# The second hop's parts

What each of parts 9 to 13 of the program does: the second transfers land, their sums are stored, and the third
transfers start.
-/
module

public import proofs.«01_k».proof.Proof.Ring.Access

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32) (K : GSem nD τ sig → ℕ) (c : Dev nD)
variable {hi : inB.IsWhole} {ho : outB.IsWhole} {ha : accB.IsWhole} {hr : rcvB.IsWhole}

/-- Part 9: the device waits for (0, 1, 0) to land; reads its own rows for addition 2 of direction 0, half 0; stores the sum over the piece of (0, 1, 0). -/
theorem part9_run (v2 v7 : BitVec 32) (Kt : PUnit → sProp 𝕄) :
    iprop(Env xs K ∗ (mayLand c (0, 1, 0) ∗ ow c [(0, 2, 0), (1, 2, 0), (0, 2, 1), (1, 2, 1)] ∗ inP xs c)
        ∗ ((ow c [(0, 2, 0), (1, 2, 0), (0, 2, 1), (1, 2, 1)] ∗ piece c (recvM (0, 1, 0)) (val xs 0 0 2 c) ∗ semVal (rcvCell c (0, 1, 0)) 0 ∗ inP xs c) -∗ Kt ⟨⟩))
      ⊢ WP c (k0_part9 (F := F) inB hi outB ho accB ha rcvB hr cc0_scratch2 cc0_scratch3 c v2 v7) Kt := by
  simp only [k0_part9_eq_skeleton]
  unfold k0_part9_skel
  simp only [Prog.lift, Prog.bind_op, Prog.bind_ret, Prog.pure_eq_ret]
  iintro ⟨#HE, ⟨L010, O, X⟩, Hk⟩
  iapply (step_recv xs K c (0, 1, 0) [(0, 2, 0), (1, 2, 0), (0, 2, 1), (1, 2, 1)] (by decide) rfl rfl) $$ [L010 O]
  · isplitr; · iexact HE
    isplitl [L010]; · iexact L010
    iexact O
  iintro ⟨R010, Z010, O⟩
  iapply (step_loadX xs c 0 0 2 ((k0_off3_eq c 1).trans (by revert c; decide))) $$ [X]
  · iexact X
  iintro X
  iapply (step_loadR c (0, 1, 0) (val xs 0 0 1 (src 0 c)) rfl) $$ [R010]
  · iexact R010
  iintro R010
  iapply (step_loadR c (0, 1, 0) (val xs 0 0 1 (src 0 c)) rfl) $$ [R010]
  · iexact R010
  iintro R010
  iapply (step_storeR c (0, 1, 0) (val xs 0 0 1 (src 0 c)) (val xs 0 0 2 c) rfl
    (by unfold k0_pay9; exact sum_cast _ _)) $$ [R010]
  · iexact R010
  iintro R010
  iapply (step_ret c _ Kt)
  iapply Hk
  isplitl [O]; · iexact O
  isplitl [R010]; · iexact R010
  isplitl [Z010]; · iexact Z010
  iexact X

/-- Part 10: the device starts transfer (0, 2, 0); waits for (1, 1, 0) to land; reads its own rows for addition 2 of direction 1, half 0. -/
theorem part10_run (v2 v5 : BitVec 32) (Kt : (FVec F S1x1x128x512 .f32) → sProp 𝕄) :
    iprop(Env xs K ∗ (piece c (srcM (0, 2, 0)) (val xs 0 0 2 c) ∗ (mayStart c (0, 2, 0) ∗ target c (0, 2, 0)) ∗ ow c [(0, 2, 0), (1, 2, 0), (0, 2, 1), (1, 2, 1)] ∗ mayLand c (1, 1, 0) ∗ inP xs c)
        ∗ ((ow c [(1, 2, 0), (0, 2, 1), (1, 2, 1)] ∗ sent c (0, 2, 0) ∗ piece c (recvM (1, 1, 0)) (val xs 1 0 1 (src 1 c)) ∗ semVal (rcvCell c (1, 1, 0)) 0 ∗ inP xs c) -∗ Kt (k0_pay10 (part (xs c) 1 0 (ck 1 2 c)) (shapeCast S1x1x128x512 (val xs 1 0 1 (src 1 c)) shapeCasts_S128x512_S1x1x128x512))))
      ⊢ WP c (k0_part10 (F := F) inB hi outB ho accB ha rcvB hr cc0_scratch2 cc0_scratch3 c v2 v5) Kt := by
  simp only [k0_part10_eq_skeleton]
  unfold k0_part10_skel
  simp only [Prog.lift, Prog.bind_op, Prog.bind_ret, Prog.pure_eq_ret]
  iintro ⟨#HE, ⟨R010, M020, O, L110, X⟩, Hk⟩
  iapply (step_send xs K c (0, 2, 0) [(1, 2, 0), (0, 2, 1), (1, 2, 1)] (dev_nxt c _ (k0_dev11_eq c)) rfl rfl rfl rfl) $$ [R010 M020 O]
  · isplitr; · iexact HE
    isplitl [R010]; · iexact R010
    isplitl [M020]; · iexact M020
    iexact O
  iintro ⟨T020, O⟩
  iapply (step_recv xs K c (1, 1, 0) [(1, 2, 0), (0, 2, 1), (1, 2, 1)] (by decide) rfl rfl) $$ [L110 O]
  · isplitr; · iexact HE
    isplitl [L110]; · iexact L110
    iexact O
  iintro ⟨R110, Z110, O⟩
  iapply (step_loadX xs c 1 0 2 ((k0_off4_eq c 1).trans (by revert c; decide))) $$ [X]
  · iexact X
  iintro X
  iapply (step_loadR c (1, 1, 0) (val xs 1 0 1 (src 1 c)) rfl) $$ [R110]
  · iexact R110
  iintro R110
  iapply (step_loadR c (1, 1, 0) (val xs 1 0 1 (src 1 c)) rfl) $$ [R110]
  · iexact R110
  iintro R110
  iapply (step_ret c _ Kt)
  iapply Hk
  isplitl [O]; · iexact O
  isplitl [T020]; · iexact T020
  isplitl [R110]; · iexact R110
  isplitl [Z110]; · iexact Z110
  iexact X

/-- Part 11: the device stores the sum over the piece of (1, 1, 0); starts transfer (1, 2, 0); waits for (0, 1, 1) to land. -/
theorem part11_run (v2 v5 v7 : BitVec 32) (Kt : (BitVec 32) → sProp 𝕄) :
    iprop(Env xs K ∗ (piece c (recvM (1, 1, 0)) (val xs 1 0 1 (src 1 c)) ∗ (mayStart c (1, 2, 0) ∗ target c (1, 2, 0)) ∗ ow c [(1, 2, 0), (0, 2, 1), (1, 2, 1)] ∗ mayLand c (0, 1, 1))
        ∗ (∀ w : BitVec 32, (ow c [(0, 2, 1), (1, 2, 1)] ∗ sent c (1, 2, 0) ∗ piece c (recvM (0, 1, 1)) (val xs 0 1 1 (src 0 c)) ∗ semVal (rcvCell c (0, 1, 1)) 0) -∗ Kt w))
      ⊢ WP c (k0_part11 (F := F) inB hi outB ho accB ha rcvB hr cc0_scratch2 cc0_scratch3 c v2 v5 v7 (k0_pay10 (part (xs c) 1 0 (ck 1 2 c)) (shapeCast S1x1x128x512 (val xs 1 0 1 (src 1 c)) shapeCasts_S128x512_S1x1x128x512))) Kt := by
  simp only [k0_part11_eq_skeleton]
  unfold k0_part11_skel
  simp only [Prog.lift, Prog.bind_op, Prog.bind_ret, Prog.pure_eq_ret]
  iintro ⟨#HE, ⟨R110, M120, O, L011⟩, Hk⟩
  iapply (step_storeR c (1, 1, 0) (val xs 1 0 1 (src 1 c)) (val xs 1 0 2 c) rfl
    (by unfold k0_pay10; exact sum_cast _ _)) $$ [R110]
  · iexact R110
  iintro R110
  iapply (step_send xs K c (1, 2, 0) [(0, 2, 1), (1, 2, 1)] (dev_prv c _ (k0_dev12_eq c)) rfl rfl rfl rfl) $$ [R110 M120 O]
  · isplitr; · iexact HE
    isplitl [R110]; · iexact R110
    isplitl [M120]; · iexact M120
    iexact O
  iintro ⟨T120, O⟩
  iapply (step_recv xs K c (0, 1, 1) [(0, 2, 1), (1, 2, 1)] (by decide) rfl rfl) $$ [L011 O]
  · isplitr; · iexact HE
    isplitl [L011]; · iexact L011
    iexact O
  iintro ⟨R011, Z011, O⟩
  iapply (step_ret c _ Kt)
  iapply Hk
  isplitl [O]; · iexact O
  isplitl [T120]; · iexact T120
  isplitl [R011]; · iexact R011
  iexact Z011

/-- Part 12: the device reads its own rows for addition 2 of direction 0, half 1; stores the sum over the piece of (0, 1, 1); starts transfer (0, 2, 1). -/
theorem part12_run (v5 v7 w0 : BitVec 32) (Kt : PUnit → sProp 𝕄) :
    iprop(Env xs K ∗ (inP xs c ∗ piece c (recvM (0, 1, 1)) (val xs 0 1 1 (src 0 c)) ∗ (mayStart c (0, 2, 1) ∗ target c (0, 2, 1)) ∗ ow c [(0, 2, 1), (1, 2, 1)])
        ∗ ((inP xs c ∗ ow c [(1, 2, 1)] ∗ sent c (0, 2, 1)) -∗ Kt ⟨⟩))
      ⊢ WP c (k0_part12 (F := F) inB hi outB ho accB ha rcvB hr cc0_scratch2 cc0_scratch3 c v5 v7 w0) Kt := by
  simp only [k0_part12_eq_skeleton]
  unfold k0_part12_skel
  simp only [Prog.lift, Prog.bind_op, Prog.bind_ret, Prog.pure_eq_ret]
  iintro ⟨#HE, ⟨X, R011, M021, O⟩, Hk⟩
  iapply (step_loadX xs c 0 1 2 ((k0_off5_eq c 1).trans (by revert c; decide))) $$ [X]
  · iexact X
  iintro X
  iapply (step_loadR c (0, 1, 1) (val xs 0 1 1 (src 0 c)) rfl) $$ [R011]
  · iexact R011
  iintro R011
  iapply (step_loadR c (0, 1, 1) (val xs 0 1 1 (src 0 c)) rfl) $$ [R011]
  · iexact R011
  iintro R011
  iapply (step_storeR c (0, 1, 1) (val xs 0 1 1 (src 0 c)) (val xs 0 1 2 c) rfl
    (by unfold k0_pay11; exact sum_cast _ _)) $$ [R011]
  · iexact R011
  iintro R011
  iapply (step_send xs K c (0, 2, 1) [(1, 2, 1)] (dev_nxt c _ (k0_dev13_eq c)) rfl rfl rfl rfl) $$ [R011 M021 O]
  · isplitr; · iexact HE
    isplitl [R011]; · iexact R011
    isplitl [M021]; · iexact M021
    iexact O
  iintro ⟨T021, O⟩
  iapply (step_ret c _ Kt)
  iapply Hk
  isplitl [X]; · iexact X
  isplitl [O]; · iexact O
  iexact T021

/-- Part 13: the device waits for (1, 1, 1) to land; reads its own rows for addition 2 of direction 1, half 1; stores the sum over the piece of (1, 1, 1). -/
theorem part13_run (v2 v5 : BitVec 32) (Kt : PUnit → sProp 𝕄) :
    iprop(Env xs K ∗ (mayLand c (1, 1, 1) ∗ ow c [(1, 2, 1)] ∗ inP xs c)
        ∗ ((ow c [(1, 2, 1)] ∗ piece c (recvM (1, 1, 1)) (val xs 1 1 2 c) ∗ semVal (rcvCell c (1, 1, 1)) 0 ∗ inP xs c) -∗ Kt ⟨⟩))
      ⊢ WP c (k0_part13 (F := F) inB hi outB ho accB ha rcvB hr cc0_scratch2 cc0_scratch3 c v2 v5) Kt := by
  simp only [k0_part13_eq_skeleton]
  unfold k0_part13_skel
  simp only [Prog.lift, Prog.bind_op, Prog.bind_ret, Prog.pure_eq_ret]
  iintro ⟨#HE, ⟨L111, O, X⟩, Hk⟩
  iapply (step_recv xs K c (1, 1, 1) [(1, 2, 1)] (by decide) rfl rfl) $$ [L111 O]
  · isplitr; · iexact HE
    isplitl [L111]; · iexact L111
    iexact O
  iintro ⟨R111, Z111, O⟩
  iapply (step_loadX xs c 1 1 2 ((k0_off6_eq c 1).trans (by revert c; decide))) $$ [X]
  · iexact X
  iintro X
  iapply (step_loadR c (1, 1, 1) (val xs 1 1 1 (src 1 c)) rfl) $$ [R111]
  · iexact R111
  iintro R111
  iapply (step_loadR c (1, 1, 1) (val xs 1 1 1 (src 1 c)) rfl) $$ [R111]
  · iexact R111
  iintro R111
  iapply (step_storeR c (1, 1, 1) (val xs 1 1 1 (src 1 c)) (val xs 1 1 2 c) rfl
    (by unfold k0_pay12; exact sum_cast _ _)) $$ [R111]
  · iexact R111
  iintro R111
  iapply (step_ret c _ Kt)
  iapply Hk
  isplitl [O]; · iexact O
  isplitl [R111]; · iexact R111
  isplitl [Z111]; · iexact Z111
  iexact X

end Cert.RingProof

end
-- ==== Proof.Ring.PartsC.lean ====
/-
# The last parts

What each of parts 14 to 20 of the program does: the third transfers land, their sums are stored as the result,
and every transfer is known to have left.
-/
module

public import proofs.«01_k».proof.Proof.Ring.Access

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32) (K : GSem nD τ sig → ℕ) (c : Dev nD)
variable {hi : inB.IsWhole} {ho : outB.IsWhole} {ha : accB.IsWhole} {hr : rcvB.IsWhole}

/-- Part 14: the device starts transfer (1, 2, 1); waits for (0, 2, 0) to land; reads its own rows for addition 3 of direction 0, half 0; stores the sum in the result's rows of direction 0, half 0. -/
theorem part14_run (v2 v5 v7 : BitVec 32) (Y0 : S512x512.Idx → Elt F .f32) (Kt : (BitVec 32) → sProp 𝕄) :
    iprop(Env xs K ∗ (piece c (srcM (1, 2, 1)) (val xs 1 1 2 c) ∗ (mayStart c (1, 2, 1) ∗ target c (1, 2, 1)) ∗ ow c [(1, 2, 1)] ∗ mayLand c (0, 2, 0) ∗ inP xs c ∗ outP c Y0)
        ∗ (∀ w : BitVec 32, (ow c [] ∗ sent c (1, 2, 1) ∗ piece c (recvM (0, 2, 0)) (val xs 0 0 2 (src 0 c)) ∗ semVal (rcvCell c (0, 2, 0)) 0 ∗ inP xs c ∗ outP c ((rectO (0, 0)).overlay Y0 (val xs 0 0 3 c))) -∗ Kt w))
      ⊢ WP c (k0_part14 (F := F) inB hi outB ho accB ha rcvB hr cc0_scratch2 cc0_scratch3 c v2 v5 v7) Kt := by
  simp only [k0_part14_eq_skeleton]
  unfold k0_part14_skel
  simp only [Prog.lift, Prog.bind_op, Prog.bind_ret, Prog.pure_eq_ret]
  iintro ⟨#HE, ⟨R111, M121, O, L020, X, Y⟩, Hk⟩
  iapply (step_send xs K c (1, 2, 1) [] (dev_prv c _ (k0_dev14_eq c)) rfl rfl rfl rfl) $$ [R111 M121 O]
  · isplitr; · iexact HE
    isplitl [R111]; · iexact R111
    isplitl [M121]; · iexact M121
    iexact O
  iintro ⟨T121, O⟩
  iapply (step_recv xs K c (0, 2, 0) [] (by decide) rfl rfl) $$ [L020 O]
  · isplitr; · iexact HE
    isplitl [L020]; · iexact L020
    iexact O
  iintro ⟨R020, Z020, O⟩
  iapply (step_loadX xs c 0 0 3 ((k0_off3_eq c 0).trans (by revert c; decide))) $$ [X]
  · iexact X
  iintro X
  iapply (step_loadR c (0, 2, 0) (val xs 0 0 2 (src 0 c)) rfl) $$ [R020]
  · iexact R020
  iintro R020
  iapply (step_loadO c _) $$ [Y]
  · iexact Y
  iintro Y
  iapply (step_storeO c (0, 0) _ (val xs 0 0 3 c) rfl (by unfold k0_pay13; exact sum_rows _ _)) $$ [Y]
  · iexact Y
  iintro Y
  iapply (step_ret c _ Kt)
  iapply Hk
  isplitl [O]; · iexact O
  isplitl [T121]; · iexact T121
  isplitl [R020]; · iexact R020
  isplitl [Z020]; · iexact Z020
  isplitl [X]; · iexact X
  iexact Y

/-- Part 15: the device waits for (1, 2, 0) to land; reads its own rows for addition 3 of direction 1, half 0; stores the sum in the result's rows of direction 1, half 0; waits for (0, 2, 1) to land. -/
theorem part15_run (v2 v7 w0 : BitVec 32) (Y0 : S512x512.Idx → Elt F .f32) (Kt : (BitVec 32) → sProp 𝕄) :
    iprop(Env xs K ∗ (mayLand c (1, 2, 0) ∗ ow c [] ∗ inP xs c ∗ outP c Y0 ∗ mayLand c (0, 2, 1))
        ∗ (∀ w : BitVec 32, (ow c [] ∗ piece c (recvM (1, 2, 0)) (val xs 1 0 2 (src 1 c)) ∗ semVal (rcvCell c (1, 2, 0)) 0 ∗ inP xs c ∗ outP c ((rectO (1, 0)).overlay Y0 (val xs 1 0 3 c)) ∗ piece c (recvM (0, 2, 1)) (val xs 0 1 2 (src 0 c)) ∗ semVal (rcvCell c (0, 2, 1)) 0) -∗ Kt w))
      ⊢ WP c (k0_part15 (F := F) inB hi outB ho accB ha rcvB hr cc0_scratch2 cc0_scratch3 c v2 v7 w0) Kt := by
  simp only [k0_part15_eq_skeleton]
  unfold k0_part15_skel
  simp only [Prog.lift, Prog.bind_op, Prog.bind_ret, Prog.pure_eq_ret]
  iintro ⟨#HE, ⟨L120, O, X, Y, L021⟩, Hk⟩
  iapply (step_recv xs K c (1, 2, 0) [] (by decide) rfl rfl) $$ [L120 O]
  · isplitr; · iexact HE
    isplitl [L120]; · iexact L120
    iexact O
  iintro ⟨R120, Z120, O⟩
  iapply (step_loadX xs c 1 0 3 ((k0_off4_eq c 2).trans (by revert c; decide))) $$ [X]
  · iexact X
  iintro X
  iapply (step_loadR c (1, 2, 0) (val xs 1 0 2 (src 1 c)) rfl) $$ [R120]
  · iexact R120
  iintro R120
  iapply (step_loadO c _) $$ [Y]
  · iexact Y
  iintro Y
  iapply (step_storeO c (1, 0) _ (val xs 1 0 3 c) rfl (by unfold k0_pay14; exact sum_rows _ _)) $$ [Y]
  · iexact Y
  iintro Y
  iapply (step_recv xs K c (0, 2, 1) [] (by decide) rfl rfl) $$ [L021 O]
  · isplitr; · iexact HE
    isplitl [L021]; · iexact L021
    iexact O
  iintro ⟨R021, Z021, O⟩
  iapply (step_ret c _ Kt)
  iapply Hk
  isplitl [O]; · iexact O
  isplitl [R120]; · iexact R120
  isplitl [Z120]; · iexact Z120
  isplitl [X]; · iexact X
  isplitl [Y]; · iexact Y
  isplitl [R021]; · iexact R021
  iexact Z021

/-- Part 16: the device reads its own rows for addition 3 of direction 0, half 1; stores the sum in the result's rows of direction 0, half 1; waits for (1, 2, 1) to land; reads its own rows for addition 3 of direction 1, half 1. -/
theorem part16_run (v2 v5 w0 : BitVec 32) (Y0 : S512x512.Idx → Elt F .f32) (Kt : (Σ' (v378 : FVec F S128x512 .f32), Vec F S1x1x128x512 .f32) → sProp 𝕄) :
    iprop(Env xs K ∗ (inP xs c ∗ piece c (recvM (0, 2, 1)) (val xs 0 1 2 (src 0 c)) ∗ outP c Y0 ∗ mayLand c (1, 2, 1) ∗ ow c [])
        ∗ ((inP xs c ∗ piece c (recvM (0, 2, 1)) (val xs 0 1 2 (src 0 c)) ∗ outP c ((rectO (0, 1)).overlay Y0 (val xs 0 1 3 c)) ∗ ow c [] ∗ piece c (recvM (1, 2, 1)) (val xs 1 1 2 (src 1 c)) ∗ semVal (rcvCell c (1, 2, 1)) 0) -∗ Kt ⟨k0_pay16 (part (xs c) 1 1 (ck 1 3 c)), shapeCast S1x1x128x512 (val xs 1 1 2 (src 1 c)) shapeCasts_S128x512_S1x1x128x512⟩))
      ⊢ WP c (k0_part16 (F := F) inB hi outB ho accB ha rcvB hr cc0_scratch2 cc0_scratch3 c v2 v5 w0) Kt := by
  simp only [k0_part16_eq_skeleton]
  unfold k0_part16_skel
  simp only [Prog.lift, Prog.bind_op, Prog.bind_ret, Prog.pure_eq_ret]
  iintro ⟨#HE, ⟨X, R021, Y, L121, O⟩, Hk⟩
  iapply (step_loadX xs c 0 1 3 ((k0_off5_eq c 0).trans (by revert c; decide))) $$ [X]
  · iexact X
  iintro X
  iapply (step_loadR c (0, 2, 1) (val xs 0 1 2 (src 0 c)) rfl) $$ [R021]
  · iexact R021
  iintro R021
  iapply (step_loadO c _) $$ [Y]
  · iexact Y
  iintro Y
  iapply (step_storeO c (0, 1) _ (val xs 0 1 3 c) rfl (by unfold k0_pay15; exact sum_rows _ _)) $$ [Y]
  · iexact Y
  iintro Y
  iapply (step_recv xs K c (1, 2, 1) [] (by decide) rfl rfl) $$ [L121 O]
  · isplitr; · iexact HE
    isplitl [L121]; · iexact L121
    iexact O
  iintro ⟨R121, Z121, O⟩
  iapply (step_loadX xs c 1 1 3 ((k0_off6_eq c 2).trans (by revert c; decide))) $$ [X]
  · iexact X
  iintro X
  iapply (step_loadR c (1, 2, 1) (val xs 1 1 2 (src 1 c)) rfl) $$ [R121]
  · iexact R121
  iintro R121
  iapply (step_ret c _ Kt)
  iapply Hk
  isplitl [X]; · iexact X
  isplitl [R021]; · iexact R021
  isplitl [Y]; · iexact Y
  isplitl [O]; · iexact O
  isplitl [R121]; · iexact R121
  iexact Z121

/-- Part 17: the device stores the sum in the result's rows of direction 1, half 1; waits for (0, 0, 0) to have left; waits for (1, 0, 0) to have left. -/
theorem part17_run (Y0 : S512x512.Idx → Elt F .f32) (Kt : PUnit → sProp 𝕄) :
    iprop(Env xs K ∗ (outP c Y0 ∗ sent c (0, 0, 0) ∗ ow c [] ∗ sent c (1, 0, 0))
        ∗ ((outP c ((rectO (1, 1)).overlay Y0 (val xs 1 1 3 c)) ∗ ow c [] ∗ piece c (srcM (0, 0, 0)) (val xs 0 0 0 c) ∗ semVal (sndCell c (0, 0, 0)) 0 ∗ piece c (srcM (1, 0, 0)) (val xs 1 0 0 c) ∗ semVal (sndCell c (1, 0, 0)) 0) -∗ Kt ⟨⟩))
      ⊢ WP c (k0_part17 (F := F) inB hi outB ho accB ha rcvB hr cc0_scratch2 cc0_scratch3 (k0_pay16 (part (xs c) 1 1 (ck 1 3 c))) (shapeCast S1x1x128x512 (val xs 1 1 2 (src 1 c)) shapeCasts_S128x512_S1x1x128x512)) Kt := by
  simp only [k0_part17_eq_skeleton]
  unfold k0_part17_skel
  simp only [Prog.lift, Prog.bind_op, Prog.bind_ret, Prog.pure_eq_ret]
  iintro ⟨#HE, ⟨Y, T000, O, T100⟩, Hk⟩
  iapply (step_loadO c _) $$ [Y]
  · iexact Y
  iintro Y
  iapply (step_storeO c (1, 1) _ (val xs 1 1 3 c) rfl (by unfold k0_pay17 k0_pay16; exact sum_rows _ _)) $$ [Y]
  · iexact Y
  iintro Y
  iapply (step_fin xs K c (0, 0, 0) rfl rfl) $$ [T000 O]
  · isplitr; · iexact HE
    isplitl [T000]; · iexact T000
    iexact O
  iintro ⟨G000, S000, O⟩
  iapply (step_fin xs K c (1, 0, 0) rfl rfl) $$ [T100 O]
  · isplitr; · iexact HE
    isplitl [T100]; · iexact T100
    iexact O
  iintro ⟨G100, S100, O⟩
  iapply (step_ret c _ Kt)
  iapply Hk
  isplitl [Y]; · iexact Y
  isplitl [O]; · iexact O
  isplitl [G000]; · iexact G000
  isplitl [S000]; · iexact S000
  isplitl [G100]; · iexact G100
  iexact S100

/-- Part 18: the device waits for (0, 0, 1) to have left; waits for (1, 0, 1) to have left; waits for (0, 1, 0) to have left. -/
theorem part18_run (Kt : PUnit → sProp 𝕄) :
    iprop(Env xs K ∗ (sent c (0, 0, 1) ∗ ow c [] ∗ sent c (1, 0, 1) ∗ sent c (0, 1, 0))
        ∗ ((ow c [] ∗ piece c (srcM (0, 0, 1)) (val xs 0 1 0 c) ∗ semVal (sndCell c (0, 0, 1)) 0 ∗ piece c (srcM (1, 0, 1)) (val xs 1 1 0 c) ∗ semVal (sndCell c (1, 0, 1)) 0 ∗ piece c (srcM (0, 1, 0)) (val xs 0 0 1 c) ∗ semVal (sndCell c (0, 1, 0)) 0) -∗ Kt ⟨⟩))
      ⊢ WP c (k0_part18 (F := F) inB hi outB ho accB ha rcvB hr cc0_scratch2 cc0_scratch3) Kt := by
  simp only [k0_part18_eq_skeleton]
  unfold k0_part18_skel
  simp only [Prog.lift, Prog.bind_op, Prog.bind_ret, Prog.pure_eq_ret]
  iintro ⟨#HE, ⟨T001, O, T101, T010⟩, Hk⟩
  iapply (step_fin xs K c (0, 0, 1) rfl rfl) $$ [T001 O]
  · isplitr; · iexact HE
    isplitl [T001]; · iexact T001
    iexact O
  iintro ⟨G001, S001, O⟩
  iapply (step_fin xs K c (1, 0, 1) rfl rfl) $$ [T101 O]
  · isplitr; · iexact HE
    isplitl [T101]; · iexact T101
    iexact O
  iintro ⟨G101, S101, O⟩
  iapply (step_fin xs K c (0, 1, 0) rfl rfl) $$ [T010 O]
  · isplitr; · iexact HE
    isplitl [T010]; · iexact T010
    iexact O
  iintro ⟨G010, S010, O⟩
  iapply (step_ret c _ Kt)
  iapply Hk
  isplitl [O]; · iexact O
  isplitl [G001]; · iexact G001
  isplitl [S001]; · iexact S001
  isplitl [G101]; · iexact G101
  isplitl [S101]; · iexact S101
  isplitl [G010]; · iexact G010
  iexact S010

/-- Part 19: the device waits for (1, 1, 0) to have left; waits for (0, 1, 1) to have left; waits for (1, 1, 1) to have left. -/
theorem part19_run (Kt : PUnit → sProp 𝕄) :
    iprop(Env xs K ∗ (sent c (1, 1, 0) ∗ ow c [] ∗ sent c (0, 1, 1) ∗ sent c (1, 1, 1))
        ∗ ((ow c [] ∗ piece c (srcM (1, 1, 0)) (val xs 1 0 1 c) ∗ semVal (sndCell c (1, 1, 0)) 0 ∗ piece c (srcM (0, 1, 1)) (val xs 0 1 1 c) ∗ semVal (sndCell c (0, 1, 1)) 0 ∗ piece c (srcM (1, 1, 1)) (val xs 1 1 1 c) ∗ semVal (sndCell c (1, 1, 1)) 0) -∗ Kt ⟨⟩))
      ⊢ WP c (k0_part19 (F := F) inB hi outB ho accB ha rcvB hr cc0_scratch2 cc0_scratch3) Kt := by
  simp only [k0_part19_eq_skeleton]
  unfold k0_part19_skel
  simp only [Prog.lift, Prog.bind_op, Prog.bind_ret, Prog.pure_eq_ret]
  iintro ⟨#HE, ⟨T110, O, T011, T111⟩, Hk⟩
  iapply (step_fin xs K c (1, 1, 0) rfl rfl) $$ [T110 O]
  · isplitr; · iexact HE
    isplitl [T110]; · iexact T110
    iexact O
  iintro ⟨G110, S110, O⟩
  iapply (step_fin xs K c (0, 1, 1) rfl rfl) $$ [T011 O]
  · isplitr; · iexact HE
    isplitl [T011]; · iexact T011
    iexact O
  iintro ⟨G011, S011, O⟩
  iapply (step_fin xs K c (1, 1, 1) rfl rfl) $$ [T111 O]
  · isplitr; · iexact HE
    isplitl [T111]; · iexact T111
    iexact O
  iintro ⟨G111, S111, O⟩
  iapply (step_ret c _ Kt)
  iapply Hk
  isplitl [O]; · iexact O
  isplitl [G110]; · iexact G110
  isplitl [S110]; · iexact S110
  isplitl [G011]; · iexact G011
  isplitl [S011]; · iexact S011
  isplitl [G111]; · iexact G111
  iexact S111

/-- Part 20: the device waits for (0, 2, 0) to have left; waits for (1, 2, 0) to have left. -/
theorem part20_run (Kt : PUnit → sProp 𝕄) :
    iprop(Env xs K ∗ (sent c (0, 2, 0) ∗ ow c [] ∗ sent c (1, 2, 0))
        ∗ ((ow c [] ∗ piece c (srcM (0, 2, 0)) (val xs 0 0 2 c) ∗ semVal (sndCell c (0, 2, 0)) 0 ∗ piece c (srcM (1, 2, 0)) (val xs 1 0 2 c) ∗ semVal (sndCell c (1, 2, 0)) 0) -∗ Kt ⟨⟩))
      ⊢ WP c (k0_part20 (F := F) inB hi outB ho accB ha rcvB hr cc0_scratch2 cc0_scratch3) Kt := by
  simp only [k0_part20_eq_skeleton]
  unfold k0_part20_skel
  simp only [Prog.lift, Prog.bind_op, Prog.bind_ret, Prog.pure_eq_ret]
  iintro ⟨#HE, ⟨T020, O, T120⟩, Hk⟩
  iapply (step_fin xs K c (0, 2, 0) rfl rfl) $$ [T020 O]
  · isplitr; · iexact HE
    isplitl [T020]; · iexact T020
    iexact O
  iintro ⟨G020, S020, O⟩
  iapply (step_fin xs K c (1, 2, 0) rfl rfl) $$ [T120 O]
  · isplitr; · iexact HE
    isplitl [T120]; · iexact T120
    iexact O
  iintro ⟨G120, S120, O⟩
  iapply (step_ret c _ Kt)
  iapply Hk
  isplitl [O]; · iexact O
  isplitl [G020]; · iexact G020
  isplitl [S020]; · iexact S020
  isplitl [G120]; · iexact G120
  iexact S120

end Cert.RingProof

end
-- ==== Proof.Ring.Body.lean ====
/-
# The whole program of a device

The parts, one after another: from what a device holds when its program starts to what it holds at the end, when the
result's buffer has every direction's and half's sum, both scratch buffers are whole again and every semaphore is back
at zero.
-/
module

public import proofs.«01_k».proof.Proof.Ring.PartsS
public import proofs.«01_k».proof.Proof.Ring.PartsA
public import proofs.«01_k».proof.Proof.Ring.PartsB
public import proofs.«01_k».proof.Proof.Ring.PartsC

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x2048.Idx → Elt F .f32) (K : GSem nD τ sig → ℕ) (c : Dev nD)
variable {hi : inB.IsWhole} {ho : outB.IsWhole} {ha : accB.IsWhole} {hr : rcvB.IsWhole}

/-- A program followed by another. -/
theorem step_bind {α β : Type} (p : Prog (TpuEff nD τ sig (Elt F) Λ₀ .tc) β) (k : β → Prog (TpuEff nD τ sig (Elt F) Λ₀ .tc) α) (Q : α → sProp 𝕄) :
    WP c p (fun a => WP c (k a) Q) ⊢ WP c (p >>= k) Q := by
  unfold WP
  rw [wp_bind]

/-- The result's buffer after the four stores. -/
def outFill (Y : S512x512.Idx → Elt F .f32) : S512x512.Idx → Elt F .f32 :=
  (rectO (1, 1)).overlay ((rectO (0, 1)).overlay ((rectO (1, 0)).overlay ((rectO (0, 0)).overlay Y (val xs 0 0 3 c)) (val xs 1 0 3 c))
    (val xs 0 1 3 c)) (val xs 1 1 3 c)

/-- What a device holds when its program starts. -/
def bodyPre (A : S2x256x512.Idx → Elt F .f32) (B : S2x3x256x512.Idx → Elt F .f32) (Y : S512x512.Idx → Elt F .f32) : sProp 𝕄 :=
  iprop(barIn c ∗ bigSep Finset.univ (fun p : P => reached ER (rcvCell c p) 0) ∗ inP xs c ∗ outP c Y
    ∗ owns (c : Thread nD τ) accB fullShare A ∗ owns (c : Thread nD τ) rcvB fullShare B
    ∗ bigSep Finset.univ (fun p : P => mayStart c p) ∗ bigSep Finset.univ (fun p : P => mayLand c p))

/-- What it holds at the end. -/
def bodyPost (Y : S512x512.Idx → Elt F .f32) : sProp 𝕄 :=
  iprop(inP xs c ∗ outP c (outFill xs c Y) ∗ (∃ A, owns (c : Thread nD τ) accB fullShare A) ∗ (∃ B, owns (c : Thread nD τ) rcvB fullShare B)
    ∗ semVal (barCell c) 0 ∗ bigSep Finset.univ (fun p : P => semVal (sndCell c p) 0) ∗ bigSep Finset.univ (fun p : P => semVal (rcvCell c p) 0)
    ∗ ∃ W, owes (c : Thread nD τ) (0 : CellTallies nD τ sig Unit) W)

/-- A family over the transfers, one by one. -/
theorem each (Φ : P → sProp 𝕄) : bigSep Finset.univ Φ
    = iprop(Φ (0, 0, 0) ∗ Φ (1, 0, 0) ∗ Φ (0, 0, 1) ∗ Φ (1, 0, 1) ∗ Φ (0, 1, 0) ∗ Φ (1, 1, 0) ∗ Φ (0, 1, 1) ∗ Φ (1, 1, 1) ∗ Φ (0, 2, 0) ∗ Φ (1, 2, 0) ∗ Φ (0, 2, 1) ∗ Φ (1, 2, 1)) :=
  bigSep_univ_eq_bigSepL order (by decide) (by decide) Φ

/-- The receive buffer, as what the device gives its two neighbours. -/
theorem give (B : S2x3x256x512.Idx → Elt F .f32) :
    iprop(owns (c : Thread nD τ) rcvB fullShare B ∗ bigSep Finset.univ (fun p : P => reached ER (rcvCell c p) 0))
      ⊢ (iprop(barPay (tgt 1 c) 0 ∗ barPay (tgt 0 c) 1) : sProp 𝕄) := by
  have h (d : Fin 2) (e : Dev nD) (he : tgt d e = c) : barPay (F := F) e d
      = bigSep Finset.univ fun hs : Fin 3 × Fin 2 => iprop((∃ Y, piece c (recvM (d, hs)) Y) ∗ reached ER (rcvCell c (d, hs)) 0) := by
    subst he; rfl
  have hΦ : (iprop(bigSep Finset.univ (fun p : P => iprop(∃ Y, piece c (recvM p) Y)) ∗ bigSep Finset.univ (fun p : P => reached ER (rcvCell c p) 0)) : sProp 𝕄)
      = iprop(barPay (tgt 1 c) 0 ∗ barPay (tgt 0 c) 1) := by
    rw [h 0 _ (tgt_swap' c), h 1 _ (tgt_swap c)]
    refine (BI.bigSep_sep (s := Finset.univ) (Φ := fun p : P => (iprop(∃ Y, piece c (recvM p) Y) : sProp 𝕄))
      (Ψ := fun p : P => (reached ER (rcvCell c p) 0 : sProp 𝕄))).symm.trans ?_
    rw [BI.bigSep_univ_prod, BI.bigSep_fin_two]
    rfl
  exact (sep_mono_left (scatter_rcv c B)).trans (Entails.of_eq hΦ)

/-- What the barrier brings, transfer by transfer. -/
theorem take : (iprop(barPay c 0 ∗ barPay c 1) : sProp 𝕄) ⊢ bigSep Finset.univ (fun p : P => target c p) := by
  rw [BI.bigSep_univ_prod (fun p : P => target c p), BI.bigSep_fin_two]
  exact .rfl

/-- A family over the halves of each direction, one by one. -/
theorem four (Φ : Fin 2 × Fin 2 → sProp 𝕄) : bigSep Finset.univ Φ = iprop(Φ (0, 0) ∗ Φ (1, 0) ∗ Φ (0, 1) ∗ Φ (1, 1)) :=
  bigSep_univ_eq_bigSepL [((0 : Fin 2), (0 : Fin 2)), (1, 0), (0, 1), (1, 1)] (by decide) (by decide) Φ

/-- The accumulator's pieces, joined. -/
theorem join_acc (X : P → S128x512.Idx → Elt F .f32) :
    iprop(piece c (srcM (0, 0, 0)) (X (0, 0, 0)) ∗ piece c (srcM (1, 0, 0)) (X (1, 0, 0))
        ∗ piece c (srcM (0, 0, 1)) (X (0, 0, 1)) ∗ piece c (srcM (1, 0, 1)) (X (1, 0, 1)))
      ⊢ (iprop(∃ A, owns (c : Thread nD τ) accB fullShare A) : sProp 𝕄) := by
  refine BI.Entails.trans ?_ (gather_acc c)
  rw [four]
  show (_ : sProp 𝕄) ⊢ _
  iintro ⟨H0, H1, H2, H3⟩
  isplitl [H0]; · iexists _; iexact H0
  isplitl [H1]; · iexists _; iexact H1
  isplitl [H2]; · iexists _; iexact H2
  iexists _; iexact H3

/-- The receive buffer's pieces, joined. -/
theorem join_rcv (X Z : P → S128x512.Idx → Elt F .f32) :
    iprop(piece c (srcM (0, 1, 0)) (X (0, 1, 0))
        ∗ piece c (srcM (1, 1, 0)) (X (1, 1, 0))
        ∗ piece c (srcM (0, 1, 1)) (X (0, 1, 1))
        ∗ piece c (srcM (1, 1, 1)) (X (1, 1, 1))
        ∗ piece c (srcM (0, 2, 0)) (X (0, 2, 0))
        ∗ piece c (srcM (1, 2, 0)) (X (1, 2, 0))
        ∗ piece c (srcM (0, 2, 1)) (X (0, 2, 1))
        ∗ piece c (srcM (1, 2, 1)) (X (1, 2, 1))
        ∗ piece c (recvM (0, 2, 0)) (Z (0, 2, 0))
        ∗ piece c (recvM (1, 2, 0)) (Z (1, 2, 0))
        ∗ piece c (recvM (0, 2, 1)) (Z (0, 2, 1))
        ∗ piece c (recvM (1, 2, 1)) (Z (1, 2, 1)))
      ⊢ (iprop(∃ B, owns (c : Thread nD τ) rcvB fullShare B) : sProp 𝕄) := by
  refine BI.Entails.trans ?_ (gather_rcv c)
  rw [each]
  show (_ : sProp 𝕄) ⊢ _
  iintro ⟨G010, G110, G011, G111, G020, G120, G021, G121, R020, R120, R021, R121⟩
  isplitl [G010]; · iexists _; iexact G010
  isplitl [G110]; · iexists _; iexact G110
  isplitl [G011]; · iexists _; iexact G011
  isplitl [G111]; · iexists _; iexact G111
  isplitl [G020]; · iexists _; iexact G020
  isplitl [G120]; · iexists _; iexact G120
  isplitl [G021]; · iexists _; iexact G021
  isplitl [G121]; · iexists _; iexact G121
  isplitl [R020]; · iexists _; iexact R020
  isplitl [R120]; · iexists _; iexact R120
  isplitl [R021]; · iexists _; iexact R021
  iexists _; iexact R121

/-- The program, from its start to its end. -/
theorem body_run (A : S2x256x512.Idx → Elt F .f32) (B : S2x3x256x512.Idx → Elt F .f32) (Y : S512x512.Idx → Elt F .f32) (Kt : PUnit → sProp 𝕄) :
    iprop(Env xs K ∗ bodyPre xs c A B Y ∗ (bodyPost xs c Y -∗ Kt ⟨⟩))
      ⊢ WP c (cc0_body (F := F) inB hi outB ho accB ha rcvB hr cc0_scratch2 cc0_scratch3) Kt := by
  simp only [cc0_body_eq_skeleton]
  unfold cc0_body_skel bodyPre
  rw [each (fun p : P => mayStart c p), each (fun p : P => mayLand c p)]
  iintro ⟨#HE, ⟨Hbar, Hre, X, Y, HA, HB, Hms, Hml⟩, Hk⟩
  icases Hms with ⟨M000, M100, M001, M101, M010, M110, M011, M111, M020, M120, M021, M121⟩
  icases Hml with ⟨L000, L100, L001, L101, L010, L110, L011, L111, L020, L120, L021, L121⟩
  ihave Hg := (give c B) $$ [HB Hre]
  · isplitl [HB]; · iexact HB
    iexact Hre
  icases Hg with ⟨Hg1, Hg0⟩
  iapply (step_bind c _ _ Kt)
  iapply (part1_run xs K c A)
  isplitr; · iexact HE
  isplitl [Hbar Hg1 Hg0 X HA]
  · isplitl [Hbar]; · iexact Hbar
    isplitl [Hg1]; · iexact Hg1
    isplitl [Hg0]; · iexact Hg0
    isplitl [X]; · iexact X
    iexact HA
  iintro %v2 %v5 %v7 ⟨O, Zb, Hq0, Hq1, X, HA⟩
  ihave Ht := ((take c).trans (Entails.of_eq (each (fun p : P => target c p)))) $$ [Hq0 Hq1]
  · isplitl [Hq0]; · iexact Hq0
    iexact Hq1
  icases Ht with ⟨D000, D100, D001, D101, D010, D110, D011, D111, D020, D120, D021, D121⟩
  iapply (step_bind c _ _ Kt)
  iapply (part2_run xs K c v5 v7 A)
  isplitr; · iexact HE
  isplitl [HA O M000 D000 M100 D100]
  · isplitl [HA]; · iexact HA
    isplitl [O]; · iexact O
    isplitl [M000 D000]
    · isplitl [M000]; · iexact M000
      iexact D000
    isplitl [M100]; · iexact M100
    iexact D100
  iintro ⟨O, T000, T100, A01, A11⟩
  iapply (step_bind c _ _ Kt)
  iapply (part3_run xs K c v5 v7)
  isplitr; · iexact HE
  isplitl [A01 M001 D001 O A11 M101 D101]
  · isplitl [A01]; · iexact A01
    isplitl [M001 D001]
    · isplitl [M001]; · iexact M001
      iexact D001
    isplitl [O]; · iexact O
    isplitl [A11]; · iexact A11
    isplitl [M101]; · iexact M101
    iexact D101
  iintro %w3 ⟨O, T001, T101⟩
  iapply (step_bind c _ _ Kt)
  iapply (part4_run xs K c v2 v7 w3)
  isplitr; · iexact HE
  isplitl [L000 O X]
  · isplitl [L000]; · iexact L000
    isplitl [O]; · iexact O
    iexact X
  iintro ⟨O, R000, Z000, X⟩
  iapply (step_bind c _ _ Kt)
  iapply (part5_run xs K c v2 v5)
  isplitr; · iexact HE
  isplitl [R000 M010 D010 O L100 X]
  · isplitl [R000]; · iexact R000
    isplitl [M010 D010]
    · isplitl [M010]; · iexact M010
      iexact D010
    isplitl [O]; · iexact O
    isplitl [L100]; · iexact L100
    iexact X
  iintro ⟨O, T010, R100, Z100, X⟩
  iapply (step_bind c _ _ Kt)
  iapply (part6_run xs K c v2 v5 v7)
  isplitr; · iexact HE
  isplitl [R100 M110 D110 O L001 X]
  · isplitl [R100]; · iexact R100
    isplitl [M110 D110]
    · isplitl [M110]; · iexact M110
      iexact D110
    isplitl [O]; · iexact O
    isplitl [L001]; · iexact L001
    iexact X
  iintro ⟨O, T110, R001, Z001, X⟩
  iapply (step_bind c _ _ Kt)
  iapply (part7_run xs K c v5 v7)
  isplitr; · iexact HE
  isplitl [R001 M011 D011 O]
  · isplitl [R001]; · iexact R001
    isplitl [M011 D011]
    · isplitl [M011]; · iexact M011
      iexact D011
    iexact O
  iintro ⟨O, T011⟩
  iapply (step_bind c _ _ Kt)
  iapply (part8_run xs K c v2 v5)
  isplitr; · iexact HE
  isplitl [L101 O X M111 D111]
  · isplitl [L101]; · iexact L101
    isplitl [O]; · iexact O
    isplitl [X]; · iexact X
    isplitl [M111]; · iexact M111
    iexact D111
  iintro ⟨O, Z101, X, T111⟩
  iapply (step_bind c _ _ Kt)
  iapply (part9_run xs K c v2 v7)
  isplitr; · iexact HE
  isplitl [L010 O X]
  · isplitl [L010]; · iexact L010
    isplitl [O]; · iexact O
    iexact X
  iintro ⟨O, R010, Z010, X⟩
  iapply (step_bind c _ _ Kt)
  iapply (part10_run xs K c v2 v5)
  isplitr; · iexact HE
  isplitl [R010 M020 D020 O L110 X]
  · isplitl [R010]; · iexact R010
    isplitl [M020 D020]
    · isplitl [M020]; · iexact M020
      iexact D020
    isplitl [O]; · iexact O
    isplitl [L110]; · iexact L110
    iexact X
  iintro ⟨O, T020, R110, Z110, X⟩
  iapply (step_bind c _ _ Kt)
  iapply (part11_run xs K c v2 v5 v7)
  isplitr; · iexact HE
  isplitl [R110 M120 D120 O L011]
  · isplitl [R110]; · iexact R110
    isplitl [M120 D120]
    · isplitl [M120]; · iexact M120
      iexact D120
    isplitl [O]; · iexact O
    iexact L011
  iintro %w11 ⟨O, T120, R011, Z011⟩
  iapply (step_bind c _ _ Kt)
  iapply (part12_run xs K c v5 v7 w11)
  isplitr; · iexact HE
  isplitl [X R011 M021 D021 O]
  · isplitl [X]; · iexact X
    isplitl [R011]; · iexact R011
    isplitl [M021 D021]
    · isplitl [M021]; · iexact M021
      iexact D021
    iexact O
  iintro ⟨X, O, T021⟩
  iapply (step_bind c _ _ Kt)
  iapply (part13_run xs K c v2 v5)
  isplitr; · iexact HE
  isplitl [L111 O X]
  · isplitl [L111]; · iexact L111
    isplitl [O]; · iexact O
    iexact X
  iintro ⟨O, R111, Z111, X⟩
  iapply (step_bind c _ _ Kt)
  iapply (part14_run xs K c v2 v5 v7 _)
  isplitr; · iexact HE
  isplitl [R111 M121 D121 O L020 X Y]
  · isplitl [R111]; · iexact R111
    isplitl [M121 D121]
    · isplitl [M121]; · iexact M121
      iexact D121
    isplitl [O]; · iexact O
    isplitl [L020]; · iexact L020
    isplitl [X]; · iexact X
    iexact Y
  iintro %w14 ⟨O, T121, R020, Z020, X, Y⟩
  iapply (step_bind c _ _ Kt)
  iapply (part15_run xs K c v2 v7 w14 _)
  isplitr; · iexact HE
  isplitl [L120 O X Y L021]
  · isplitl [L120]; · iexact L120
    isplitl [O]; · iexact O
    isplitl [X]; · iexact X
    isplitl [Y]; · iexact Y
    iexact L021
  iintro %w15 ⟨O, R120, Z120, X, Y, R021, Z021⟩
  iapply (step_bind c _ _ Kt)
  iapply (part16_run xs K c v2 v5 w15 _)
  isplitr; · iexact HE
  isplitl [X R021 Y L121 O]
  · isplitl [X]; · iexact X
    isplitl [R021]; · iexact R021
    isplitl [Y]; · iexact Y
    isplitl [L121]; · iexact L121
    iexact O
  iintro ⟨X, R021, Y, O, R121, Z121⟩
  iapply (step_bind c _ _ Kt)
  iapply (part17_run xs K c  _)
  isplitr; · iexact HE
  isplitl [Y T000 O T100]
  · isplitl [Y]; · iexact Y
    isplitl [T000]; · iexact T000
    isplitl [O]; · iexact O
    iexact T100
  iintro ⟨Y, O, G000, S000, G100, S100⟩
  iapply (step_bind c _ _ Kt)
  iapply (part18_run xs K c )
  isplitr; · iexact HE
  isplitl [T001 O T101 T010]
  · isplitl [T001]; · iexact T001
    isplitl [O]; · iexact O
    isplitl [T101]; · iexact T101
    iexact T010
  iintro ⟨O, G001, S001, G101, S101, G010, S010⟩
  iapply (step_bind c _ _ Kt)
  iapply (part19_run xs K c )
  isplitr; · iexact HE
  isplitl [T110 O T011 T111]
  · isplitl [T110]; · iexact T110
    isplitl [O]; · iexact O
    isplitl [T011]; · iexact T011
    iexact T111
  iintro ⟨O, G110, S110, G011, S011, G111, S111⟩
  iapply (step_bind c _ _ Kt)
  iapply (part20_run xs K c )
  isplitr; · iexact HE
  isplitl [T020 O T120]
  · isplitl [T020]; · iexact T020
    isplitl [O]; · iexact O
    iexact T120
  iintro ⟨O, G020, S020, G120, S120⟩
  simp only [Prog.lift, Prog.bind_op, Prog.bind_ret, Prog.pure_eq_ret]
  iapply (step_fin xs K c (0, 2, 1) rfl rfl) $$ [T021 O]
  · isplitr; · iexact HE
    isplitl [T021]; · iexact T021
    iexact O
  iintro ⟨G021, S021, O⟩
  iapply (step_fin xs K c (1, 2, 1) rfl rfl) $$ [T121 O]
  · isplitr; · iexact HE
    isplitl [T121]; · iexact T121
    iexact O
  iintro ⟨G121, S121, O⟩
  iapply (step_ret c _ Kt)
  iapply Hk
  unfold bodyPost
  isplitl [X]; · iexact X
  isplitl [Y]; · iexact Y
  isplitl [G000 G100 G001 G101]
  · iapply (join_acc c (fun p => val xs p.1 p.2.2 p.2.1.val c))
    isplitl [G000]; · iexact G000
    isplitl [G100]; · iexact G100
    isplitl [G001]; · iexact G001
    iexact G101
  isplitl [G010 G110 G011 G111 G020 G120 G021 G121 R020 R120 R021 R121]
  · iapply (join_rcv c (fun p => val xs p.1 p.2.2 p.2.1.val c) (fun p => val xs p.1 p.2.2 p.2.1.val (src p.1 c)))
    isplitl [G010]; · iexact G010
    isplitl [G110]; · iexact G110
    isplitl [G011]; · iexact G011
    isplitl [G111]; · iexact G111
    isplitl [G020]; · iexact G020
    isplitl [G120]; · iexact G120
    isplitl [G021]; · iexact G021
    isplitl [G121]; · iexact G121
    isplitl [R020]; · iexact R020
    isplitl [R120]; · iexact R120
    isplitl [R021]; · iexact R021
    iexact R121
  isplitl [Zb]; · iexact Zb
  isplitl [S000 S100 S001 S101 S010 S110 S011 S111 S020 S120 S021 S121]
  · rw [each (fun p : P => semVal (sndCell c p) 0)]
    isplitl [S000]; · iexact S000
    isplitl [S100]; · iexact S100
    isplitl [S001]; · iexact S001
    isplitl [S101]; · iexact S101
    isplitl [S010]; · iexact S010
    isplitl [S110]; · iexact S110
    isplitl [S011]; · iexact S011
    isplitl [S111]; · iexact S111
    isplitl [S020]; · iexact S020
    isplitl [S120]; · iexact S120
    isplitl [S021]; · iexact S021
    iexact S121
  isplitl [Z000 Z100 Z001 Z101 Z010 Z110 Z011 Z111 Z020 Z120 Z021 Z121]
  · rw [each (fun p : P => semVal (rcvCell c p) 0)]
    isplitl [Z000]; · iexact Z000
    isplitl [Z100]; · iexact Z100
    isplitl [Z001]; · iexact Z001
    isplitl [Z101]; · iexact Z101
    isplitl [Z010]; · iexact Z010
    isplitl [Z110]; · iexact Z110
    isplitl [Z011]; · iexact Z011
    isplitl [Z111]; · iexact Z111
    isplitl [Z020]; · iexact Z020
    isplitl [Z120]; · iexact Z120
    isplitl [Z021]; · iexact Z021
    iexact Z121
  unfold ow
  iexact O

end Cert.RingProof

end
-- ==== Proof.Ring.Result.lean ====
/-
# The result's buffer

The four stores fill the result's buffer, whatever it held: its row `256 d + 128 s + r` is row `r` of the last sum of
direction `d` and half `s`.
-/
module

public import proofs.«01_k».proof.Proof.Ring.Body
public import Idealize.ShloMosaic.Lib.Pointwise

@[expose] public section

set_option maxRecDepth 16384

noncomputable section

namespace Cert.RingProof

open Cert.KernelIdeal Cert.KernelIdeal.Gen
open Idealize.ShloMosaic
open Idealize.ShloMosaic.TcCoe

variable {F : FTy → Type} [FloatOps F]

variable (xs : Dev nD → S512x2048.Idx → Elt F .f32) (c : Dev nD)

set_option backward.proofsInPublic true in
/-- The direction and half of a row of the result. -/
def rowOf (i : S512x512.Idx) : Fin 2 × Fin 2 :=
  (⟨(i 0).val / 256, by have : (i 0).val < 512 := (i 0).isLt; omega⟩, ⟨(i 0).val / 128 % 2, Nat.mod_lt _ (by decide)⟩)

set_option backward.proofsInPublic true in
/-- Its place among that half's rows. -/
def placeOf (i : S512x512.Idx) : S128x512.Idx := ix2 ⟨(i 0).val % 128, Nat.mod_lt _ (by decide)⟩ (i 1)

/-- What the result's buffer holds at the end. -/
def outV (i : S512x512.Idx) : Elt F .f32 := val xs (rowOf i).1 (rowOf i).2 3 c (placeOf i)

/-- A place of the result is its half's rows at its place among them. -/
theorem place_emb (i : S512x512.Idx) : (rectO (rowOf i)).emb (placeOf i) = i := by
  have h : (i 0).val < 512 := (i 0).isLt
  funext a
  apply Fin.ext
  match a with
  | ⟨0, _⟩ =>
    show 256 * ((i 0).val / 256) + 128 * ((i 0).val / 128 % 2) + 1 * ((i 0).val % 128) = (i 0).val
    omega
  | ⟨1, _⟩ =>
    show 0 + 1 * (i 1).val = (i 1).val
    omega

/-- A store of other rows leaves a row as it was. -/
theorem over_other {q q' : Fin 2 × Fin 2} (h : q ≠ q') (Y : S512x512.Idx → Elt F .f32) (X : S128x512.Idx → Elt F .f32) (j : S128x512.Idx) :
    (rectO q').overlay Y X ((rectO q).emb j) = Y ((rectO q).emb j) := by
  refine Rect.overlay_of_not_mem _ _ _ fun hm => ?_
  have h' := Rect.mem_set_unit.mp hm 0
  have hj : (j 0).val < 128 := (j 0).isLt
  obtain ⟨h1, h2⟩ : 256 * q'.1.val + 128 * q'.2.val ≤ 256 * q.1.val + 128 * q.2.val + 1 * (j 0).val
      ∧ 256 * q.1.val + 128 * q.2.val + 1 * (j 0).val < 256 * q'.1.val + 128 * q'.2.val + 128 := h'
  refine h (Prod.ext (Fin.ext ?_) (Fin.ext ?_)) <;> omega

/-- A store of its rows gives a row what is stored. -/
theorem over_same (q : Fin 2 × Fin 2) (Y : S512x512.Idx → Elt F .f32) (X : S128x512.Idx → Elt F .f32) (j : S128x512.Idx) :
    (rectO q).overlay Y X ((rectO q).emb j) = X j := Rect.overlay_emb (rectO q) Y X j

/-- After the four stores each half's rows hold what its last addition gave. -/
theorem outFill_at (Y : S512x512.Idx → Elt F .f32) (q : Fin 2 × Fin 2) (j : S128x512.Idx) :
    outFill xs c Y ((rectO q).emb j) = val xs q.1 q.2 3 c j := by
  unfold outFill
  obtain ⟨d, s⟩ := q
  match d, s with
  | 0, 0 => rw [over_other (by decide), over_other (by decide), over_other (by decide), over_same]
  | 1, 0 => rw [over_other (by decide), over_other (by decide), over_same]
  | 0, 1 => rw [over_other (by decide), over_same]
  | 1, 1 => rw [over_same]

/-- The four stores leave the result, whatever the buffer held. -/
theorem outFill_eq (Y : S512x512.Idx → Elt F .f32) : outFill xs c Y = outV xs c := by
  funext i
  rw [← place_emb i, outFill_at, place_emb]
  rfl

end Cert.RingProof

end
-- ==== Proof.Ring.Sum.lean ====
/-
# The sum the ring computes

Over exact arithmetic: the three hops visit all four devices, so what a device holds in the end is, at each
place, the sum over the devices of their matrices there, at the columns of that device.
-/
module

public import proofs.«01_k».proof.Proof.Ring.Result
public import Idealize.ShloMosaic.Lib.Pointwise

@[expose] public section

set_option maxRecDepth 16384

noncomputable section

namespace Cert.RingProof

open Cert.KernelIdeal Cert.KernelIdeal.Gen
open Idealize.ShloMosaic
open Idealize.ShloMosaic.TcCoe

/-- At its third addition a device adds its own chunk of columns. -/
theorem ck_last (d : Fin 2) (c : Dev nD) : ck d 3 c = c := by revert d c; decide

/-- The chunk that the device before adds at its second addition is that same one. -/
theorem ck_back1 (d : Fin 2) (c : Dev nD) : ck d 2 (src d c) = c := by revert d c; decide

/-- Two back at the first addition it is that same one, -/
theorem ck_back2 (d : Fin 2) (c : Dev nD) : ck d 1 (src d (src d c)) = c := by revert d c; decide

/-- and three back at the start. -/
theorem ck_back3 (d : Fin 2) (c : Dev nD) : ck d 0 (src d (src d (src d c))) = c := by revert d c; decide

/-- Going back around the ring meets every device once. -/
theorem ring_sum (f : Dev nD → EReal) (d : Fin 2) (c : Dev nD) :
    f (src d (src d (src d c))) + f (src d (src d c)) + f (src d c) + f c = ∑ e, f e := by
  have h4 : ∑ e, f e = f 0 + f 1 + f 2 + f 3 := Fin.sum_univ_four f
  rw [h4]
  match d, c with
  | 0, 0 => show f 1 + f 2 + f 3 + f 0 = _; ac_rfl
  | 0, 1 => show f 2 + f 3 + f 0 + f 1 = _; ac_rfl
  | 0, 2 => show f 3 + f 0 + f 1 + f 2 = _; ac_rfl
  | 0, 3 => rfl
  | 1, 0 => show f 3 + f 2 + f 1 + f 0 = _; ac_rfl
  | 1, 1 => show f 0 + f 3 + f 2 + f 1 = _; ac_rfl
  | 1, 2 => show f 1 + f 0 + f 3 + f 2 = _; ac_rfl
  | 1, 3 => show f 2 + f 1 + f 0 + f 3 = _; ac_rfl

/-- What a device holds after three additions is the sum of the four devices' parts at its own columns. -/
theorem val_sum (xs : Dev nD → S512x2048.Idx → Elt Ideal .f32) (d s : Fin 2) (c : Dev nD) (j : S128x512.Idx) :
    val xs d s 3 c j = ∑ e : Dev nD, (show EReal from part (xs e) d s c j) := by
  rw [← ring_sum (fun e => part (xs e) d s c j) d c]
  show ((part (xs (src d (src d (src d c)))) d s (ck d 0 (src d (src d (src d c)))) j
    + part (xs (src d (src d c))) d s (ck d 1 (src d (src d c))) j : EReal)
    + part (xs (src d c)) d s (ck d 2 (src d c)) j) + part (xs c) d s (ck d 3 c) j = _
  rw [ck_back3, ck_back2, ck_back1, ck_last]

/-- The place of a device's matrix that a place of the result adds. -/
def inAt (c : Dev nD) (i : S512x512.Idx) : S512x2048.Idx :=
  (rectX (rowOf i).1 (rowOf i).2 c).emb (placeOf i)

/-- It lies in the same row, -/
theorem inAt_row (c : Dev nD) (i : S512x512.Idx) : (inAt c i 0).val = (i 0).val := by
  have h : (i 0).val < 512 := (i 0).isLt
  show 256 * ((i 0).val / 256) + 128 * ((i 0).val / 128 % 2) + 1 * ((i 0).val % 128) = (i 0).val
  omega

/-- in the device's chunk of columns. -/
theorem inAt_col (c : Dev nD) (i : S512x512.Idx) : (inAt c i 1).val = c.val * 512 + (i 1).val := by
  show 512 * c.val + 1 * (i 1).val = c.val * 512 + (i 1).val
  omega

/-- The result of device `c` at a place is the sum of the four matrices at the matching place. -/
theorem outV_sum (xs : Dev nD → S512x2048.Idx → Elt Ideal .f32) (c : Dev nD) (i : S512x512.Idx) :
    outV xs c i = ∑ e : Dev nD, (show EReal from xs e (inAt c i)) := val_sum xs _ _ c _

end Cert.RingProof

end
-- ==== Proof.Ring.Region.lean ====
/-
# The kernel's call

What the call takes and leaves: each device's matrix comes in as the host left it, the result array goes out holding
the last sums, and every semaphore the kernel used is back at zero.
-/
module

public import proofs.«01_k».proof.Proof.Ring.Result
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Value
public import Idealize.ShloMosaic.Lib.Rounds.Family
public import Idealize.ShloMosaic.Lib.StableHlo
public import Idealize.ShloMosaic.Harness.Basic

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the arrays hold -/

/-- A device's buffers at launch, when the kernel is called, and when it returns. -/
abbrev V₀ (c : Dev nD) : Valuation τ sig (Elt F) := fun b => m ((c : Dev nD), b)

/-- A device's arrays after the host reshape. -/
abbrev V₁ (c : Dev nD) : Valuation τ sig (Elt F) := StableHlo.after hostOps0 (V₀ m c)
/-- The matrix the kernel is called with on a device. -/
def xin (c : Dev nD) : S512x2048.Idx → Elt F .f32 := V₁ m c main_v1

/-- Its arrays after the call. -/
abbrev V₂ (c : Dev nD) : Valuation τ sig (Elt F) := Function.update (V₁ m c) (Proc.devRef .tc main_v2) (outV (xin m) c)

/-- The call leaves the result in its array, -/
theorem V₂_v2 (c : Dev nD) : V₂ m c main_v2 = outV (xin m) c := Function.update_self ..

/-- and the matrix -/
theorem V₂_v1 (c : Dev nD) : V₂ m c main_v1 = V₁ m c main_v1 := Function.update_of_ne (by decide) ..

/-- and the argument as they were. -/
theorem V₂_arg0 (c : Dev nD) : V₂ m c main_arg0 = V₁ m c main_arg0 := Function.update_of_ne (by decide) ..

/-! ## What a device carries from the launch to the call -/

/-- The rights to take part, from the launch: its barrier's position, the tokens of what it pays, the right to open its own cells. -/
def carried (K : GSem nD τ sig → ℕ) (c : Dev nD) : sProp 𝕄 :=
  iprop(Invs (xin m) K ∗ atPos ER (barCell c) 0 ∅ 0
    ∗ dutyTok ER (barCell (tgt 1 c)) 0 (0 : Fin 2) ∗ reached ER (barCell (tgt 1 c)) 0
    ∗ dutyTok ER (barCell (tgt 0 c)) 0 (1 : Fin 2) ∗ reached ER (barCell (tgt 0 c)) 0
    ∗ bigSep Finset.univ (fun k : Fin 2 × P => openTok ER ((c : Thread nD τ), osem k))
    ∗ bigSep Finset.univ (fun p : P => iprop(dutyTok ER (sndCell c p) 0 (0 : Fin 2) ∗ dutyTok ER (rcvCell (tgt p.1 c) p) 0 (0 : Fin 2))))

/-- The credit it waits with. -/
def credits (c : Dev nD) : sProp 𝕄 :=
  iprop(cred (tallyAt (barCell c) () 2) ∗ bigSep Finset.univ (fun p : P => cred (tallyAt (rcvCell c p) () N)))

/-- The same with its own cells open. -/
def ready (K : GSem nD τ sig → ℕ) (c : Dev nD) : sProp 𝕄 :=
  iprop(Env (xin m) K ∗ atPos ER (barCell c) 0 ∅ 0
    ∗ dutyTok ER (barCell (tgt 1 c)) 0 (0 : Fin 2) ∗ reached ER (barCell (tgt 1 c)) 0
    ∗ dutyTok ER (barCell (tgt 0 c)) 0 (1 : Fin 2) ∗ reached ER (barCell (tgt 0 c)) 0
    ∗ bigSep Finset.univ (fun p : P => iprop(atPos ER (sndCell c p) 0 ∅ 0 ∗ reached ER (sndCell c p) 0))
    ∗ bigSep Finset.univ (fun p : P => iprop(atPos ER (rcvCell c p) 0 ∅ 0 ∗ reached ER (rcvCell c p) 0))
    ∗ bigSep Finset.univ (fun p : P => iprop(dutyTok ER (sndCell c p) 0 (0 : Fin 2) ∗ dutyTok ER (rcvCell (tgt p.1 c) p) 0 (0 : Fin 2))))

/-- What a device brings to the call, -/
def Tk (c : Dev nD) : sProp 𝕄 := iprop((∃ K, carried m K c) ∗ credits c)

/-- what it has of that once its semaphores are open, -/
def Xk (c : Dev nD) : sProp 𝕄 := iprop((∃ K, ready m K c) ∗ credits c)

/-- and what it takes away. -/
def Yk (c : Dev nD) : sProp 𝕄 := semVal (barCell c) 0

/-- A family over the kernel's own semaphores: over the send semaphores and over the receive semaphores. -/
theorem own_split (Φ : Fin 2 × P → sProp 𝕄) :
    bigSep Finset.univ Φ = iprop(bigSep Finset.univ (fun p : P => Φ (0, p)) ∗ bigSep Finset.univ (fun p : P => Φ (1, p))) := by
  rw [BI.bigSep_univ_prod, BI.bigSep_fin_two]; rfl

/-- The transfers' semaphores at zero, sends and receives apart. -/
theorem ownSems_eq (c : Dev nD) : (Pipeline.ownSems0 osem c : sProp 𝕄)
    = iprop(bigSep Finset.univ (fun p : P => semVal (sndCell c p) 0) ∗ bigSep Finset.univ (fun p : P => semVal (rcvCell c p) 0)) :=
  own_split fun k => (semVal ((c : Thread nD τ), osem k) 0 : sProp 𝕄)

/-- Two families over the transfers, together or apart. -/
theorem families (Φ Ψ : P → sProp 𝕄) :
    bigSep Finset.univ (fun p : P => iprop(Φ p ∗ Ψ p)) = iprop(bigSep Finset.univ (fun p : P => Φ p) ∗ bigSep Finset.univ (fun p : P => Ψ p)) :=
  BI.bigSep_sep Finset.univ Φ Ψ

/-- They are among the protocol's. -/
theorem own_mem (c : Dev nD) (k : Fin 2 × P) : ((c : Thread nD τ), osem k) ∈ (barCells ∪ scCells : Finset (GSem nD τ sig)) :=
  Finset.mem_union_right _ (Finset.mem_map_of_mem scEmb (Finset.mem_univ (c, k)))

/-- Entering the call, a device opens its own cells. -/
theorem open_own (c : Dev nD) : iprop(Tk m c ∗ Pipeline.ownSems0 osem c ∗ levAts L lv) ⊢ (|={Set.univ}=> Xk m c : sProp 𝕄) := by
  unfold Tk Xk carried Pipeline.ownSems0
  iintro ⟨⟨⟨%K, #HI, Hat, Ht1, Hr1, Ht0, Hr0, Ho, Htk⟩, Hc⟩, Hz, #HL⟩
  ihave Hio := (BI.bigSep_with_persistent (R := Invs (xin m) K) (Φ := fun k : Fin 2 × P => (openTok ER ((c : Thread nD τ), osem k) : sProp 𝕄))
      (Ψ := fun k : Fin 2 × P => iprop(cellInv ER (Rd (xin m)) (K ((c : Thread nD τ), osem k)) ((c : Thread nD τ), osem k) ∗ openTok ER ((c : Thread nD τ), osem k)))
      fun k _ => sep_mono_left (inv_at (xin m) K (own_mem c k))) $$ [Ho]
  · isplitr; · iexact HI
    iexact Ho
  imod (Rounds.cells_open (E := ER) (Rd := Rd (xin m)) Finset.univ (fun k : Fin 2 × P => ((c : Thread nD τ), osem k))
      (fun k => K ((c : Thread nD τ), osem k)) (fun _ _ => Set.mem_univ _)) $$ [Hio Hz] with Hop
  · isplitl [Hio] <;> iassumption
  ihave Hop := (Entails.of_eq (own_split fun k : Fin 2 × P => iprop(atPos ER ((c : Thread nD τ), osem k) 0 ∅ 0 ∗ reached ER ((c : Thread nD τ), osem k) 0))) $$ Hop
  icases Hop with ⟨Hs, Hv⟩
  imodintro
  isplitr [Hc]
  · iexists K
    unfold ready Env
    isplitr
    · isplitr; · iexact HI
      iexact HL
    isplitl [Hat]; · iexact Hat
    isplitl [Ht1]; · iexact Ht1
    isplitl [Hr1]; · iexact Hr1
    isplitl [Ht0]; · iexact Ht0
    isplitl [Hr0]; · iexact Hr0
    isplitl [Hs]; · iexact Hs
    isplitl [Hv]; · iexact Hv
    iexact Htk
  iexact Hc

/-! ## The call's data -/

/-- The scratch buffers, at any contents. -/
def scratch (c : Dev nD) : sProp 𝕄 := Pipeline.scopedRest (Ix := Unit) (Name := ℕ) (U := UU) (Lvl := ℕ) (Val := Elt F) spec0 c

/-- The call's own buffers: the accumulator and the receive buffer. -/
theorem scratch_eq (c : Dev nD) : (scratch c : sProp 𝕄)
    = iprop((∃ A, owns (c : Thread nD τ) accB fullShare A) ∗ (∃ B, owns (c : Thread nD τ) rcvB fullShare B)) := by
  unfold scratch
  rw [scopedRest0_eq]
  simp only [accB, rcvB, owns_whole]; rfl

/-- What the body has besides its windows at its start, -/
def PhiA (c : Dev nD) : sProp 𝕄 := iprop(scratch c ∗ (∃ r, prngReg c r) ∗ Xk m c)

/-- and at its end. -/
def PhiB (c : Dev nD) : sProp 𝕄 := iprop(scratch c ∗ (∃ r, prngReg c r) ∗ Pipeline.ownSems0 osem c ∗ Yk c)

/-- What the call's pipeline starts from, holds around its one point, and leaves. -/
def dat0 (c : Dev nD) : Dat τ (Elt F) Unit ℕ UU ℕ cfg0 c where
  A w := V₁ m c (Proc.devRef .tc (Pipeline.arrRef spec0 w))
  after w _ := match w with
    | ⟨0, _⟩ => xin m c
    | ⟨1, _⟩ => outV (xin m) c
  Φ t := match t with
    | ⟨0, _⟩ => PhiA m c
    | ⟨_ + 1, _⟩ => PhiB c
  q _ := fullShare
  owed t := match t with
    | ⟨0, _⟩ => O₀ c
    | ⟨_ + 1, _⟩ => 0

/-- The call's tables (it has none). -/
abbrev adm : (p : Fin 1) → (pcfgs (F := F) p).Adm := fun p => (cfgs p).toPCfg_adm

/-- The calls' data: there is one call. -/
def pdats : (p : Fin 1) → (c : Dev nD) → Dat τ (Elt F) Unit ℕ UU ℕ (Pipeline.pin (pcfgs (F := F)) adm p) c
  | 0 => dat0 m

/-! ## A window is its whole array -/

/-- The first window is the whole matrix, -/
theorem emb_in (t : Fin cfg0.N) (i : S512x2048.Idx) : ((cfg0.win 0).blk t).view.emb i = i := by
  refine funext fun a => Fin.ext ?_
  show 0 * _ + 1 * _ = _
  omega

/-- the second the whole result, -/
theorem emb_out (t : Fin cfg0.N) (i : S512x512.Idx) : ((cfg0.win 1).blk t).view.emb i = i := by
  refine funext fun a => Fin.ext ?_
  show 0 * _ + 1 * _ = _
  omega

/-- so reading the first -/
theorem read_in (t : Fin cfg0.N) (f : S512x2048.Idx → Elt F .f32) : ((cfg0.win 0).blk t).view.read (Elt F) f = f :=
  funext fun i => (View.read_apply ..).trans (congrArg f (emb_in t i))

/-- or the second reads it all, -/
theorem read_out (t : Fin cfg0.N) (f : S512x512.Idx → Elt F .f32) : ((cfg0.win 1).blk t).view.read (Elt F) f = f :=
  funext fun i => (View.read_apply ..).trans (congrArg f (emb_out t i))

/-- and the second covers every place. -/
theorem cover_out (t : Fin cfg0.N) (i : S512x512.Idx) : i ∈ ((cfg0.win 1).blk t).view.set := by
  have h := View.emb_mem_set ((cfg0.win 1).blk t).view i
  rw [emb_out] at h
  exact h

/-- The body finds the device's matrix in its window. -/
theorem before_in (c : Dev nD) (t : Fin cfg0.N) (d) : (dat0 m c).before 0 t d = xin m c := by
  unfold Dat.before
  rw [if_pos (fetch0_0 t)]
  exact read_in (F := F) t (xin m c)

/-- What is owed, out of the call's form -/
theorem owes_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, HO⟩
  iexists W; iexact HO

/-- and into it. -/
theorem owes_in (c : Dev nD) (t : Fin (cfg0.N + 1)) (O : CellTallies nD τ sig Unit) (h : (dat0 m c).owed t = O) :
    iprop(∃ W, owes (c : Thread nD τ) O W) ⊢ ((dat0 m c).owesAt () t : sProp 𝕄) := by
  unfold Dat.owesAt Pipeline.owesWithin
  rw [h]
  iintro ⟨%W, HO⟩
  iexists W
  isplitr; · ipureintro; exact fun _ _ => Or.inl trivial
  iexact HO

/-! ## The body meets what the call asks of it -/

/-- Each transfer may start, once its four tokens are there. -/
theorem start_all (c : Dev nD) :
    bigSep Finset.univ (fun p : P => iprop((atPos ER (sndCell c p) 0 ∅ 0 ∗ reached ER (sndCell c p) 0)
        ∗ (dutyTok ER (sndCell c p) 0 (0 : Fin 2) ∗ dutyTok ER (rcvCell (tgt p.1 c) p) 0 (0 : Fin 2))))
      ⊢ (bigSep Finset.univ (fun p : P => mayStart c p) : sProp 𝕄) :=
  BI.bigSep_mono fun p _ => by
    show (_ : sProp 𝕄) ⊢ _
    unfold mayStart
    iintro ⟨⟨H1, H2⟩, H3, H4⟩
    isplitl [H1]; · iexact H1
    isplitl [H2]; · iexact H2
    isplitl [H3] <;> iassumption

/-- What the body starts from, of what the call gives it. -/
theorem body_in (K : GSem nD τ sig → ℕ) (c : Dev nD) (A : S2x256x512.Idx → Elt F .f32) (B : S2x3x256x512.Idx → Elt F .f32) (Y : S512x512.Idx → Elt F .f32) :
    iprop(ready m K c ∗ credits c ∗ owns (c : Thread nD τ) accB fullShare A ∗ owns (c : Thread nD τ) rcvB fullShare B
        ∗ inP (xin m) c ∗ outP c Y ∗ ∃ W, owes (c : Thread nD τ) (O₀ c) W)
      ⊢ (iprop(Env (xin m) K ∗ bodyPre (xin m) c A B Y) : sProp 𝕄) := by
  unfold ready credits bodyPre barIn
  iintro ⟨⟨#HE, Hat, Ht1, Hr1, Ht0, Hr0, Hs, Hv, Htk⟩, ⟨Hcb, Hcr⟩, HA, HB, HX, HY, HO⟩
  ihave Hv := (Entails.of_eq (families (fun p : P => (atPos ER (rcvCell c p) 0 ∅ 0 : sProp 𝕄)) (fun p : P => (reached ER (rcvCell c p) 0 : sProp 𝕄)))) $$ Hv
  icases Hv with ⟨Hva, Hvr⟩
  isplitr; · iexact HE
  isplitl [Hat Ht1 Hr1 Ht0 Hr0 Hcb HO]
  · isplitl [Hat]; · iexact Hat
    isplitl [Hcb]; · iexact Hcb
    isplitl [Ht1]; · iexact Ht1
    isplitl [Hr1]; · iexact Hr1
    isplitl [Ht0]; · iexact Ht0
    isplitl [Hr0]; · iexact Hr0
    iexact HO
  isplitl [Hvr]; · iexact Hvr
  isplitl [HX]; · iexact HX
  isplitl [HY]; · iexact HY
  isplitl [HA]; · iexact HA
  isplitl [HB]; · iexact HB
  isplitl [Hs Htk]
  · ihave H := (Entails.of_eq (families (fun p : P => iprop(atPos ER (sndCell c p) 0 ∅ 0 ∗ reached ER (sndCell c p) 0)) (fun p : P => iprop(dutyTok ER (sndCell c p) 0 (0 : Fin 2) ∗ dutyTok ER (rcvCell (tgt p.1 c) p) 0 (0 : Fin 2)))).symm) $$ [Hs Htk]
    · isplitl [Hs] <;> iassumption
    iapply (start_all c) $$ H
  · ihave H := (Entails.of_eq (families (fun p : P => (atPos ER (rcvCell c p) 0 ∅ 0 : sProp 𝕄)) (fun p : P => (cred (tallyAt (rcvCell c p) () N) : sProp 𝕄))).symm) $$ [Hva Hcr]
    · isplitl [Hva] <;> iassumption
    iexact H

/-- What the body gets, -/
def bodyGets (c : Dev nD) : sProp 𝕄 :=
  iprop(PhiA m c ∗ (dat0 m c).owesAt () t0_0.castSucc
    ∗ (∃ d, owns (c : Thread nD τ) inB fullShare ((dat0 m c).before (0 : Fin 2) t0_0 d))
    ∗ (∃ d, owns (c : Thread nD τ) outB fullShare ((dat0 m c).before (1 : Fin 2) t0_0 d)))

/-- and what it gives. -/
def bodyGives (c : Dev nD) : sProp 𝕄 :=
  iprop(PhiB c ∗ (dat0 m c).owesAt () t0_0.succ ∗ inP (xin m) c ∗ outP c (outV (xin m) c))

/-- From the one it runs to the other. -/
theorem body_meets (c : Dev nD) : bodyGets m c ⊢ WP c (cc0_body (F := F) inB (Memref.isWhole_whole _) outB (Memref.isWhole_whole _)
    (Memref.whole cc0_scratch0) (Memref.isWhole_whole _) (Memref.whole cc0_scratch1) (Memref.isWhole_whole _) cc0_scratch2 cc0_scratch3) (fun _ => bodyGives m c) := by
  unfold bodyGets PhiA Xk
  rw [scratch_eq]
  iintro ⟨⟨⟨⟨%A, HA⟩, ⟨%B, HB⟩⟩, Hpr, ⟨%K, Hre⟩, Hcr⟩, HO, ⟨%d0, HX⟩, ⟨%d1, HY⟩⟩
  ihave HX := (Entails.of_eq (congrArg (fun X => (owns (c : Thread nD τ) inB fullShare X : sProp 𝕄)) (before_in m c t0_0 d0))) $$ HX
  ihave HO := (owes_out m c t0_0.castSucc (O₀ c) rfl) $$ HO
  ihave H := (body_in m K c A B ((dat0 m c).before (1 : Fin 2) t0_0 d1)) $$ [Hre Hcr HA HB HX HY HO]
  · isplitl [Hre]; · iexact Hre
    isplitl [Hcr]; · iexact Hcr
    isplitl [HA]; · iexact HA
    isplitl [HB]; · iexact HB
    isplitl [HX]; · iexact HX
    isplitl [HY]; · iexact HY
    iexact HO
  icases H with ⟨HE, H⟩
  iapply (body_run (xin m) K c A B ((dat0 m c).before (1 : Fin 2) t0_0 d1) (fun _ => bodyGives m c))
  isplitl [HE]; · iexact HE
  isplitl [H]; · iexact H
  unfold bodyPost bodyGives PhiB Yk
  rw [outFill_eq, scratch_eq, ownSems_eq]
  iintro ⟨HX, HY, HA, HB, Hb, Hs, Hv, HO⟩
  isplitl [HA HB Hpr Hb Hs Hv]
  · isplitl [HA HB]; · isplitl [HA] <;> iassumption
    isplitl [Hpr]; · iexact Hpr
    isplitl [Hs Hv]; · isplitl [Hs] <;> iassumption
    iexact Hb
  isplitl [HO]; · iapply (owes_in m c t0_0.succ 0 rfl); iexact HO
  isplitl [HX] <;> iassumption

/-- That is what the call asks of its body. -/
theorem body_sound (c : Dev nD) : BodyObligation (dat0 (F := F) m c) defs₀ 𝒱₀ () Set.univ := fun t => by
  rw [fin_N0 t]
  rw [bigSep_W0, bigSep_W0]
  exact body_meets m c

/-! ## The call as a piece of the program -/

/-- The call's facts at the launch. -/
theorem kitP : Pipeline.PLaunchFacts (nD := nD) (τ := τ) (pcfgs (F := F)) 0 := launch0.toP

/-- Entering the call. -/
theorem enter (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  show iprop(scratch c ∗ (∃ r, prngReg c r) ∗ StableHlo.held (c.tc : Thread nD τ) ∅ (V₁ m c) ∗ Xk m c) ⊢ PhiA m c
  unfold PhiA
  iintro ⟨Hs, Hp, -, HX⟩
  isplitl [Hs]; · iexact Hs
  isplitl [Hp] <;> iassumption

/-- Leaving it. -/
theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  show PhiB c ⊢ iprop(scratch c ∗ (∃ r, prngReg c r) ∗ StableHlo.held (c.tc : Thread nD τ) ∅ (V₂ m c) ∗ Pipeline.ownSems0 osem c ∗ Yk c)
  unfold PhiB
  rw [show (StableHlo.held (c.tc : Thread nD τ) ∅ (V₂ m c) : sProp 𝕄) = BI.emp from BI.bigSep_empty]
  iintro ⟨Hs, Hp, Ho, HY⟩
  isplitl [Hs]; · iexact Hs
  isplitl [Hp]; · iexact Hp
  isplitr; · iempintro
  isplitl [Ho] <;> iassumption

/-- What a device owes at the start, it owes to receive semaphores and barriers. -/
theorem O₀_pos {c : Dev nD} {g : GSem nD τ sig} {u : Unit} (h : 0 < O₀ c g u) : (∃ e p, g = rcvCell e p) ∨ ∃ e, g = barCell e := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨q, -, hq⟩ := OL_pos h
      exact .inl ⟨_, _, hq⟩
    · exact .inr ⟨_, tallyAt_pos h⟩
  · exact .inr ⟨_, tallyAt_pos h⟩

/-- All that is above the level of the windows' semaphores. -/
theorem owed_lv (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  obtain ⟨t, ht⟩ := t
  cases t with
  | zero =>
    rcases O₀_pos (c := c) h with ⟨e, p, rfl⟩ | ⟨e, rfl⟩
    · exact ⟨mem_L _ _ _, by rw [lv_rcv]; omega⟩
    · exact ⟨mem_L _ _ _, Nat.one_pos⟩
  | succ t => exact absurd h (Nat.lt_irrefl 0)

/-- The result array after the call. -/
theorem arr_out (c : Dev nD) : (dat0 m c).arrAt 1 cfg0.N = outV (xin m) c :=
  (dat0 m c).arrAt_eq_of_cover 1 (outV (xin m) c) (fun t _ => (read_out t (outV (xin m) c)).symm) fun i => ⟨t0_0, flush0_1 _, cover_out t0_0 i⟩

/-- The windows' arrays after the call. -/
theorem arr_last (c : Dev nD) (w : Fin 2) : (dat0 m c).arrAt w cfg0.N = V₂ m c (Proc.devRef .tc (Pipeline.arrRef spec0 w)) := by
  match w with
  | ⟨0, _⟩ => exact ((dat0 m c).arrAt_in 0 rfl _).trans (V₂_v1 m c).symm
  | ⟨1, _⟩ => exact (arr_out m c).trans (V₂_v2 m c).symm

/-- The windows' semaphores have the lowest level. -/
theorem stage_lv : ∀ (w : Fin 2) (s : Fin (win0 w).nbuf), lvOf (kd (.dma ((win0 w).sem s))) = 0 := by decide

/-- The argument isn't touched. -/
theorem held_rest (c : Dev nD) : ∀ b ∈ ({Proc.devRef .tc main_arg0} : Finset (DevRef τ sig)) \ ∅, V₂ m c b = V₁ m c b := fun b hb => by
  rw [Finset.sdiff_empty, Finset.mem_singleton] at hb
  subst hb
  exact V₂_arg0 m c

set_option backward.isDefEq.respectTransparency.types false in
/-- The call: from the arrays as the host left them to the result array at the last sums. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ {Proc.devRef .tc main_arg0} (Finset.empty_subset _) kitP rfl (fun c => (body_sound m c).loose)
    (fun _ => 0) O₀ (fun c => (zero_add (O₀ c)).symm) (fun _ => rfl) (fun _ => rfl)
    (fun c w => by unfold Dat.share; split <;> rfl)
    (V₁ m) (V₂ m) (held_rest m)
    (Tk m) Yk (Xk m) Yk (open_own m) (enter m) (leave m)
    (fun c => by iintro H; imodintro; iexact H)
    (fun _ => 0)
    ⟨fun c w s => mem_L c _ (), fun c w s => Nat.le_of_eq (stage_lv w s), fun c t g i h => owed_lv m c t g i h⟩
    (fun _ => iprop(emp))
    (fun _ _ => rfl) (arr_last m)

end Cert.RingProof

end
-- ==== Proof.Ring.Launch.lean ====
/-
# The launch

What the launch gives: the credit of the signals and transfers each device is owed, and the tokens of what each device
pays, dealt around the ring.
-/
module

public import proofs.«01_k».proof.Proof.Ring.Region

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the devices owe one cell -/

/-- Barrier semaphores of different devices are different. -/
theorem barCell_inj {c e : Dev nD} (h : barCell c = barCell e) : c = e := congrArg (fun g : GSem nD τ sig => g.1.1) h

/-- Transfers have different receive semaphores, -/
theorem rcvS_inj : Function.Injective rcvS := fun p q h => by
  have e := (kd_rcv p).symm.trans ((congrArg (fun s => kd (.dma s)) h).trans (kd_rcv q))
  injection e

/-- on different devices too. -/
theorem rcvCell_inj {c e : Dev nD} {p q : P} (h : rcvCell c p = rcvCell e q) : c = e ∧ p = q := by
  refine ⟨congrArg (fun g : GSem nD τ sig => g.1.1) h, ?_⟩
  have h2 : (SemLoc.dma (rcvS p) : SemLoc sig) = .dma (rcvS q) := congrArg Prod.snd h
  injection h2 with h3
  exact rcvS_inj h3

/-- A device's neighbour is `c` exactly when the device is the one before `c`. -/
theorem tgt_eq {k : Fin 2} {c d : Dev nD} : tgt k d = c ↔ d = src k c :=
  ⟨fun h => by rw [← h, src_tgt], fun h => by rw [h, tgt_src]⟩

/-- A unit owed to a neighbour's barrier is owed to `c` by the device before it only. -/
theorem tally_bar (k : Fin 2) (c d : Dev nD) :
    (tallyAt (barCell (tgt k d)) () 1 : CellTallies nD τ sig Unit) (barCell c) () = if d = src k c then 1 else 0 := by
  by_cases h : d = src k c
  · rw [if_pos h, tgt_eq.mpr h, tallyAt_apply, if_pos ⟨rfl, rfl⟩]
  · rw [if_neg h]
    refine Nat.eq_zero_of_not_pos fun h' => h (tgt_eq.mp (barCell_inj (tallyAt_pos h')).symm)

/-- The transfers owe nothing to a barrier, -/
theorem OL_bar (c d : Dev nD) (ps : List P) : OL d ps (barCell c) () = 0 :=
  Nat.eq_zero_of_not_pos fun h => by
    obtain ⟨q, -, e⟩ := OL_pos h
    cases congrArg Prod.snd e

/-- and the barrier's signals nothing to a receive semaphore. -/
theorem tally_bar_rcv (c e : Dev nD) (p : P) : (tallyAt (barCell e) () 1 : CellTallies nD τ sig Unit) (rcvCell c p) () = 0 :=
  Nat.eq_zero_of_not_pos fun h => by cases congrArg Prod.snd (tallyAt_pos h)

/-- What the transfers of a list owe a receive semaphore. -/
theorem OL_rcv (c d : Dev nD) (p : P) (ps : List P) (hn : ps.Nodup) :
    OL d ps (rcvCell c p) () = if p ∈ ps ∧ d = src p.1 c then N else 0 := by
  induction ps with
  | nil => rw [if_neg (fun h => List.not_mem_nil h.1)]; rfl
  | cons q qs ih =>
    have ⟨hq, hqs⟩ := List.nodup_cons.mp hn
    unfold OL
    rw [Pi.add_apply, Finsupp.add_apply, ih hqs]
    by_cases e : p = q
    · subst e
      rw [if_neg (fun h => hq h.1), Nat.zero_add]
      by_cases h : d = src p.1 c
      · rw [if_pos ⟨List.mem_cons_self .., h⟩, tgt_eq.mpr h, tallyAt_apply, if_pos ⟨rfl, rfl⟩]
      · rw [if_neg (fun h' => h h'.2)]
        exact Nat.eq_zero_of_not_pos fun h' => h (tgt_eq.mp (rcvCell_inj (tallyAt_pos h')).1.symm)
    · have h0 : (tallyAt (rcvCell (tgt q.1 d) q) () N : CellTallies nD τ sig Unit) (rcvCell c p) () = 0 :=
        Nat.eq_zero_of_not_pos fun h' => e (rcvCell_inj (tallyAt_pos h')).2
      rw [h0, Nat.add_zero]
      refine if_congr ?_ rfl rfl
      rw [List.mem_cons]
      exact ⟨fun h => ⟨.inr h.1, h.2⟩, fun h => ⟨h.1.resolve_left e, h.2⟩⟩

/-- What a device owes a barrier at the start: one unit to each neighbour. -/
theorem owed_bar (c d : Dev nD) : O₀ d (barCell c) () = (if d = src 0 c then 1 else 0) + if d = src 1 c then 1 else 0 := by
  unfold O₀
  rw [Pi.add_apply, Finsupp.add_apply, Pi.add_apply, Finsupp.add_apply, OL_bar, tally_bar, tally_bar, Nat.zero_add]

/-- What it owes a receive semaphore at the start: one transfer, to the device after it. -/
theorem owed_rcv (c d : Dev nD) (p : P) : O₀ d (rcvCell c p) () = if d = src p.1 c then N else 0 := by
  unfold O₀
  rw [Pi.add_apply, Finsupp.add_apply, Pi.add_apply, Finsupp.add_apply, tally_bar_rcv, tally_bar_rcv, Nat.add_zero, OL_rcv c d p order order_nodup]
  have : p ∈ order := List.mem_toFinset.mp (by rw [order_univ]; exact Finset.mem_univ p)
  exact if_congr ⟨fun h => h.2, fun h => ⟨this, h⟩⟩ rfl rfl

/-! ## The credit -/

/-- So a barrier is promised two units, -/
theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar c d, Finset.sum_add_distrib,
    Finset.sum_ite_eq' Finset.univ (src 0 c) fun _ => 1, Finset.sum_ite_eq' Finset.univ (src 1 c) fun _ => 1,
    if_pos (Finset.mem_univ _), if_pos (Finset.mem_univ _)]

/-- and a receive semaphore one transfer. -/
theorem credit_rcv (c : Dev nD) (p : P) :
    tallyOn (rcvCell c p) (launchCredit (Pipeline.owing O₀) 0 (rcvCell c p)) = (tallyAt (rcvCell c p) () N : CellTallies nD τ sig Unit) := by
  unfold tallyAt
  refine congrArg _ (Finsupp.ext fun u => ?_)
  cases u
  rw [Pipeline.launchCredit_owing, Finsupp.single_eq_same, Finset.sum_congr rfl fun d _ => owed_rcv c d p,
    Finset.sum_ite_eq' Finset.univ (src p.1 c) fun _ => N, if_pos (Finset.mem_univ _)]

/-- The receive semaphores, listed by transfer. -/
def rcvEmb : P ↪ SemLoc sig := ⟨fun p => .dma (rcvS p), fun p q h => by injection h with h; exact rcvS_inj h⟩

/-- The credit a device is launched with holds its two signals and its twelve transfers. -/
theorem credits_intro (c : Dev nD) : (Pipeline.launchCred O₀ c : sProp 𝕄) ⊢ credits c := by
  unfold Pipeline.launchCred credits
  rw [bigSep_univ_at _ (SemLoc.reg barS), credit_bar]
  refine sep_mono_right ?_
  have hs : (Finset.univ.map rcvEmb : Finset (SemLoc sig)) ⊆ Finset.univ.erase (SemLoc.reg barS) := fun s h => by
    obtain ⟨p, -, rfl⟩ := Finset.mem_map.mp h
    exact Finset.mem_erase.mpr ⟨fun e => (by cases e), Finset.mem_univ _⟩
  refine BI.Entails.trans (BI.bigSep_subset hs) ?_
  rw [BI.bigSep_map]
  exact Entails.of_eq (BI.bigSep_congr fun p _ => congrArg (fun t => (cred t : sProp 𝕄)) (credit_rcv c p))

/-! ## The tokens -/

/-- The duties of a device's cells: two at its barrier, one at each of its own. -/
abbrev Duty := Fin 2 ⊕ (Fin 2 × P)

/-- The semaphore that a duty pays, -/
def dutySem : Duty → SemLoc sig := Sum.elim (fun _ => .reg barS) osem

/-- and the duty's number there. -/
def dutyIx : Duty → Fin 2 := Sum.elim id fun _ => 0

/-- Different duties have different semaphores or numbers. -/
theorem duty_inj : Function.Injective fun k => (dutySem k, dutyIx k) := by decide

/-- A device's duty as a token's name. -/
def tokEmb : Dev nD × Duty ↪ GSem nD τ sig × ℕ × Fin 2 :=
  ⟨fun ck => (((ck.1 : Thread nD τ), dutySem ck.2), 0, dutyIx ck.2), fun _ _ h =>
    Prod.ext (congrArg (fun t : GSem nD τ sig × ℕ × Fin 2 => t.1.1.1) h)
      (duty_inj (Prod.ext (congrArg (fun t : GSem nD τ sig × ℕ × Fin 2 => t.1.2) h) (congrArg (fun t : GSem nD τ sig × ℕ × Fin 2 => t.2.2) h)))⟩

/-- The tokens of all duties of all devices. -/
def toks : Finset (GSem nD τ sig × ℕ × Fin 2) := Finset.univ.map tokEmb

/-- The tokens of a device's own cells. -/
def toksAt (c : Dev nD) : sProp 𝕄 :=
  iprop((dutyTok ER (barCell c) 0 (0 : Fin 2) ∗ dutyTok ER (barCell c) 0 (1 : Fin 2))
    ∗ (bigSep Finset.univ (fun p : P => dutyTok ER (sndCell c p) 0 (0 : Fin 2)) ∗ bigSep Finset.univ (fun p : P => dutyTok ER (rcvCell c p) 0 (0 : Fin 2))))
/-- The tokens of what a device pays. -/
def toksOf (c : Dev nD) : sProp 𝕄 :=
  iprop((dutyTok ER (barCell (tgt 1 c)) 0 (0 : Fin 2) ∗ dutyTok ER (barCell (tgt 0 c)) 0 (1 : Fin 2))
    ∗ (bigSep Finset.univ (fun p : P => dutyTok ER (sndCell c p) 0 (0 : Fin 2)) ∗ bigSep Finset.univ (fun p : P => dutyTok ER (rcvCell (tgt p.1 c) p) 0 (0 : Fin 2))))

/-- They are the tokens of each device. -/
theorem toks_eq : bigSep toks (fun x => (dutyTok ER x.1 x.2.1 x.2.2 : sProp 𝕄)) = bigSep Finset.univ fun c : Dev nD => toksAt c := by
  unfold toks
  rw [BI.bigSep_map, BI.bigSep_univ_prod]
  refine BI.bigSep_congr fun c _ => ?_
  rw [BI.bigSep_univ_sum, BI.bigSep_fin_two]
  unfold toksAt
  exact congrArg (BI.sep _) (own_split fun k : Fin 2 × P => (dutyTok ER ((c : Thread nD τ), osem k) 0 (0 : Fin 2) : sProp 𝕄))

/-- A device and a transfer, to the device the transfer goes to. -/
def ringP : Dev nD × P ≃ Dev nD × P :=
  ⟨fun x => (tgt x.2.1 x.1, x.2), fun x => (src x.2.1 x.1, x.2), fun x => by simp only [src_tgt], fun x => by simp only [tgt_src]⟩

/-- What every device has of each transfer may be counted at the device that it goes to. -/
theorem around (Φ : Dev nD → P → sProp 𝕄) :
    bigSep Finset.univ (fun c : Dev nD => bigSep Finset.univ fun p : P => Φ c p)
      = bigSep Finset.univ (fun c : Dev nD => bigSep Finset.univ fun p : P => Φ (tgt p.1 c) p) := by
  rw [← BI.bigSep_univ_prod (fun x : Dev nD × P => Φ x.1 x.2), bigSep_univ_equiv ringP (fun x : Dev nD × P => Φ x.1 x.2), BI.bigSep_univ_prod]
  rfl

/-- The tokens of the cells, each at the device that pays it. -/
theorem toks_around : (bigSep Finset.univ fun c : Dev nD => toksAt c) ⊢ (bigSep Finset.univ fun c : Dev nD => toksOf c : sProp 𝕄) := by
  unfold toksAt toksOf
  refine Entails.of_eq ?_
  rw [bigSep_sep', bigSep_sep', bigSep_sep', bigSep_sep', bigSep_sep', bigSep_sep',
    bigSep_univ_equiv (ring 1) (fun c : Dev nD => (dutyTok ER (barCell c) 0 (0 : Fin 2) : sProp 𝕄)),
    bigSep_univ_equiv (ring 0) (fun c : Dev nD => (dutyTok ER (barCell c) 0 (1 : Fin 2) : sProp 𝕄)),
    around fun c p => (dutyTok ER (rcvCell c p) 0 (0 : Fin 2) : sProp 𝕄)]
  rfl

end Cert.RingProof

end
-- ==== Proof.Ring.Run.lean ====
/-
# The whole program's run

From any memory with every semaphore at zero the program ends on the four devices, the argument is as it was, the result
holds the last sums of the ring, and every semaphore is at zero again.
-/
module

public import proofs.«01_k».proof.Proof.Ring.Launch
public import proofs.«01_k».proof.Proof.Gen.KernelIdeal.Frame

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A device's buffers -/

/-- The buffers that outlive the call: the argument, the kernel's operand, the result. -/
def bufs : Finset (DevRef τ sig) := (StableHlo.tcRefs τ sig).filter fun b => ¬ b.isScoped

/-- A device's arrays, as the host code holds them. -/
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The arrays of the call's windows. -/
abbrev arrs : Finset (DevRef τ sig) := Pipeline.arrRefs (τ := τ) spec0

/-- The call's two arrays, and the argument. -/
theorem bufs_split (c : Dev nD) (W : Valuation τ sig (Elt F)) : (StableHlo.held (c : Thread nD τ) bufs W : sProp 𝕄)
    = iprop(StableHlo.held (c : Thread nD τ) arrs W ∗ StableHlo.held (c : Thread nD τ) {Proc.devRef .tc main_arg0} W) := by
  rw [StableHlo.held_sub_split (c : Thread nD τ) (show arrs ⊆ bufs by decide) W,
    show bufs \ arrs = {Proc.devRef .tc main_arg0} by decide]

/-- A buffer of a device, whole. -/
abbrev pt (c : Dev nD) (b : Ref sig .tc) (f : b.ty.Contents (Elt F)) : sProp 𝕄 := (Memref.whole b).view.loc (c : Thread nD τ) ↦{fullShare} f

/-- The three arrays, one by one. -/
theorem bufs_eq (c : Dev nD) (W : Valuation τ sig (Elt F)) : (StableHlo.held (c : Thread nD τ) bufs W : sProp 𝕄)
    = iprop(pt c main_arg0 (W main_arg0) ∗ pt c main_v1 (W main_v1) ∗ pt c main_v2 (W main_v2)) := by
  unfold StableHlo.held
  rw [bigSep_eq_bigSepL_of_eq [Proc.devRef .tc main_arg0, Proc.devRef .tc main_v1, Proc.devRef .tc main_v2] (by decide) (by decide)]
  rfl

/-- The only semaphore outside the call is the barrier. -/
theorem barSems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The program in two pieces -/

/-- What goes past the host's reshape untouched. -/
def carry (c : Dev nD) : sProp 𝕄 :=
  iprop(Tk m c ∗ (∃ r, prngReg c r) ∗ ∃ W, owes (c : Thread nD τ) (O₀ c) W)

/-- The reshape touches these arrays only, -/
theorem host_sub : ∀ op ∈ (hostOps0 : List (HloOp τ sig (Elt F))), op.bufs ⊆ bufs := fun op h => by
  simp only [hostOps0, List.mem_singleton] at h
  subst h
  exact (by decide : ({Proc.devRef .tc main_arg0, Proc.devRef .tc main_v1} : Finset (DevRef τ sig)) ⊆ bufs)

/-- and allocates none. -/
theorem host_fresh : ∀ op ∈ (hostOps0 : List (HloOp τ sig (Elt F))), op.fresh = ∅ :=
  List.forall_iff_forall_mem.mp hostOps0_fresh

/-- The host's reshape. -/
def host : Pipeline.HostSeg (Name := ℕ) (U := UU) (pcfgs (F := F)) defs₀ 𝒱₀ L lv :=
  Pipeline.HostSeg.ofOps _ _ _ _ _ bufs hostOps0 host_sub host_fresh (V₀ m) (carry m)

/-- The program: the reshape, then the call. -/
def segs : List (Pipeline.Seg (pcfgs (F := F)) adm (pdats m) () defs₀ 𝒱₀ L lv) := [.host (host m), .region (region m)]

/-- That is its text. -/
theorem main_eq (c : Dev nD) : main (F := F) c = Pipeline.Seg.run (segs m) :=
  main_segs adm (pdats m) () 𝒱₀ L lv (host m) (region m) rfl c

/-- What the reshape leaves is what the call takes. -/
theorem region_pre (c : Dev nD) : iprop(StableHlo.held (c : Thread nD τ) bufs (V₁ m c) ∗ carry m c) ⊢ (region m).pre c := by
  show _ ⊢ iprop(StableHlo.held (c.tc : Thread nD τ) arrs (V₁ m c) ∗ (∃ r, prngReg c r)
    ∗ (StableHlo.held (c.tc : Thread nD τ) {Proc.devRef .tc main_arg0} (V₁ m c) ∗ emp) ∗ Tk m c ∗ ∃ Wd, owes (c : Thread nD τ) (0 + O₀ c) Wd)
  rw [bufs_split, zero_add]
  unfold carry
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the call leaves. -/
theorem region_post (c : Dev nD) : (region m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) {Proc.devRef .tc main_arg0} (V₂ m c) ∗ emp) ∗ Yk c ∗ ∃ Wd, owes (c : Thread nD τ) (0 : CellTallies nD τ sig Unit) Wd) ⊢ _
  rw [bufs_split]
  unfold Yk
  iintro ⟨Ha, -, ⟨Hr, -⟩, Hb, HO⟩
  isplitr [HO]
  · isplitl [Ha Hr]; · isplitl [Ha] <;> iassumption
    iexact Hb
  iexact HO

/-! ## The start -/

/-- Barriers and transfers' semaphores are different. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The ghost state the run starts with: that of the call's own staging, and that of the ring. -/
def u₀ : UU :=
  (initOf (Pipeline.cells (Pipeline.pin (pcfgs (F := F)) adm) cellOf_inj) (Pipeline.launchToks (Pipeline.pin (pcfgs (F := F)) adm) cellOf_inj),
    launchOf barCells scCells toks)

/-- The ring's ghost state, all on the first device until it is dealt. -/
def pot (c : Dev nD) : sProp 𝕄 := if c = 0 then BI.own (ER (launchOf barCells scCells toks)) else iprop(emp)

/-- The devices' shares of the protocol's ghost state make up the whole. -/
theorem pot_all : bigSep Finset.univ (pot (F := F)) = BI.own (ER (launchOf barCells scCells toks)) := by
  have h0 (c : Dev nD) (hc : c ∈ Finset.univ.erase (0 : Dev nD)) : pot (F := F) c = (BI.emp : sProp 𝕄) := by
    unfold pot; rw [if_neg (Finset.ne_of_mem_erase hc)]; rfl
  rw [bigSep_univ_at _ (0 : Dev nD), BI.bigSep_congr h0, BI.bigSep_emp_const]
  unfold pot
  rw [if_pos rfl]
  exact BI.equiv_iff.mp sep_emp

/-- What every device may consult. -/
def shared (K : GSem nD τ sig → ℕ) : sProp 𝕄 := iprop(Invs (xin m) K ∗ bigSep barCells fun g => reached ER g 0)
instance shared_persistent (K : GSem nD τ sig → ℕ) : BI.Persistent (shared m K) := by unfold shared; infer_instance

/-- Every barrier is in its first round. -/
theorem bar_reached (c : Dev nD) : (bigSep barCells fun g => (reached ER g 0 : sProp 𝕄)) ⊢ reached ER (barCell c) 0 :=
  bigSep_elim (Finset.mem_map_of_mem barEmb (Finset.mem_univ c))

/-- What is a device's alone. -/
def dealt (c : Dev nD) : sProp 𝕄 :=
  iprop(atPos ER (barCell c) 0 ∅ 0 ∗ bigSep Finset.univ (fun k : Fin 2 × P => openTok ER ((c : Thread nD τ), osem k)) ∗ toksOf c)

/-- What a device carries into the call, from what is shared and what it is dealt. -/
theorem carried_intro (K : GSem nD τ sig → ℕ) (c : Dev nD) : iprop(shared m K ∗ dealt c) ⊢ (carried m K c : sProp 𝕄) := by
  unfold shared dealt toksOf carried
  iintro ⟨⟨#HI, #HR⟩, Hat, Ho, ⟨Ht1, Ht0⟩, Hs, Hv⟩
  isplitr; · iexact HI
  isplitl [Hat]; · iexact Hat
  isplitl [Ht1]; · iexact Ht1
  isplitr; · iapply (bar_reached (F := F) (tgt 1 c)); iexact HR
  isplitl [Ht0]; · iexact Ht0
  isplitr; · iapply (bar_reached (F := F) (tgt 0 c)); iexact HR
  isplitl [Ho]; · iexact Ho
  iapply (Entails.of_eq (families (fun p : P => (dutyTok ER (sndCell c p) 0 (0 : Fin 2) : sProp 𝕄)) (fun p : P => (dutyTok ER (rcvCell (tgt p.1 c) p) 0 (0 : Fin 2) : sProp 𝕄))).symm)
  isplitl [Hs] <;> iassumption

/-- What a device holds when its program starts, and when it ends. -/
abbrev T₀ (c : Dev nD) : sProp 𝕄 := iprop(StableHlo.held (c : Thread nD τ) bufs (V₀ m c) ∗ carry m c)

/-- What a device has at the end. -/
abbrev Tₙ (c : Dev nD) : sProp 𝕄 := iprop(StableHlo.held (c : Thread nD τ) bufs (V₂ m c) ∗ semVal (barCell c) 0)

/-- What of it is not the ring's ghost state. -/
def plain (c : Dev nD) : sProp 𝕄 :=
  iprop(StableHlo.held (c : Thread nD τ) bufs (V₀ m c) ∗ credits c ∗ owes (c : Thread nD τ) (O₀ c) ∅ ∗ ∃ r, prngReg c r)

/-- What it has at the start, from what is shared, dealt and its own. -/
theorem T₀_intro (K : GSem nD τ sig → ℕ) (c : Dev nD) : iprop(shared m K ∗ (dealt c ∗ plain m c)) ⊢ T₀ m c := by
  unfold plain T₀ carry Tk
  iintro ⟨#HS, Hd, Hh, Hc, HO, Hp⟩
  isplitl [Hh]; · iexact Hh
  isplitl [Hd Hc]
  · isplitl [Hd]
    · iexists K
      iapply (carried_intro m K c)
      isplitr; · iexact HS
      iexact Hd
    iexact Hc
  isplitl [Hp]; · iexact Hp
  iexists ∅; iexact HO

/-- One device's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ pot c)
    ⊢ (iprop(plain m c ∗ (semVal (barCell c) 0 ∗ pot c)) : sProp 𝕄) := by
  rw [show unscopedBufs c (fun b => m ((c : Thread nD τ).loc b)) = StableHlo.held (c : Thread nD τ) bufs (V₀ m c) from bufs_held c (V₀ m c), barSems]
  unfold plain
  iintro ⟨Hh, Hus, HO, Hcr, Hp, HG⟩
  ihave Hc := (credits_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The barriers, by device. -/
theorem bars (Φ : GSem nD τ sig → sProp 𝕄) : bigSep barCells Φ = bigSep Finset.univ fun c : Dev nD => Φ (barCell c) := BI.bigSep_map barEmb

/-- The tokens that open the transfers' semaphores, by device. -/
theorem opens : bigSep scCells (fun g => (openTok ER g : sProp 𝕄))
    = bigSep Finset.univ fun c : Dev nD => bigSep Finset.univ fun k : Fin 2 × P => openTok ER ((c : Thread nD τ), osem k) := by
  rw [BI.bigSep_map, BI.bigSep_univ_prod]
  rfl

/-- The start: the cells' invariants are set up and everything is dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ pot c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ pot c))
      ⊢ (bigSep Finset.univ fun c : Dev nD => iprop(plain m c ∗ (semVal (barCell c) 0 ∗ pot c)) : sProp 𝕄) from BI.bigSep_mono fun c _ => sorted m ρ c) $$ H
  ihave H := Smoke.bigSep_unpair $$ H
  icases H with ⟨HP, H⟩
  ihave H := Smoke.bigSep_unpair $$ H
  icases H with ⟨Hv, HG⟩
  ihave Hv := (Entails.of_eq (bars (F := F) fun g => semVal g 0).symm) $$ Hv
  ihave HG := (Entails.of_eq (pot_all (F := F))) $$ HG
  imod (Rounds.fund_launch ER (Rd (xin m)) disjoint_cells (fun g _ h => h) toks) $$ [Hv HG] with ⟨%K, -, #Hinv, #Hr, Hat, Hopen, Htok⟩
  · isplitl [Hv] <;> iassumption
  imodintro
  iapply (BI.bigSep_with_persistent (R := shared m K) (Φ := fun c => iprop(dealt c ∗ plain m c)) fun c _ => T₀_intro m K c)
  isplitr
  · unfold shared Invs
    isplitr; · iexact Hinv
    iexact Hr
  iapply Smoke.bigSep_pair
  isplitr [HP]
  · unfold dealt
    iapply Smoke.bigSep_pair
    isplitl [Hat]; · iapply (Entails.of_eq (bars (F := F) fun g => atPos ER g 0 ∅ 0)) $$ Hat
    iapply Smoke.bigSep_pair
    isplitl [Hopen]; · iapply (Entails.of_eq (opens (F := F))) $$ Hopen
    iapply (toks_around (F := F))
    iapply (Entails.of_eq (toks_eq (F := F))) $$ Htok
  · iexact HP

/-! ## The run -/

/-- The reshape leaves the argument. -/
theorem V₁_arg0 (c : Dev nD) : V₁ m c main_arg0 = m ((c : Thread nD τ).loc main_arg0) := V_main_arg0 m c

/-- A semaphore outside the call is the barrier. -/
theorem only_bar : ∀ sm : SemLoc sig, sm.isScoped .tc = false → sm = .reg barS := by decide

set_option backward.isDefEq.respectTransparency.types false in
/-- The program's run on the four devices. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = outV (xin m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := pot) (u₀ := u₀)
    (hu₀ := by
      unfold u₀
      iintro Hu
      ihave H := (ownU_pair _ _) $$ Hu
      icases H with ⟨HP, HX⟩
      imodintro
      isplitl [HP]; · iexact HP
      rw [pot_all]; iexact HX)
    (T₀ := T₀ m) (Tₙ := Tₙ m)
    (hch := ⟨fun c => .rfl, fun c => region_pre m c, fun c => region_post m c⟩)
    (hinit := init m ρ)
    (QY := fun c s => (s.mem ((Memref.whole main_arg0).view.loc (c : Thread nD τ)) = V₂ m c main_arg0
        ∧ s.mem ((Memref.whole main_v2).view.loc (c : Thread nD τ)) = V₂ m c main_v2) ∧ s.sem (barCell c) = 0)
    (hfin := fun c s' => by
      dsimp only [Tₙ]; rw [bufs_eq]
      iintro ⟨⟨⟨Hx, -, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => by
        obtain ⟨⟨hx, hy⟩, -⟩ := h c
        rw [V₂_arg0, V₁_arg0] at hx
        rw [V₂_v2] at hy
        exact ⟨hx, hy⟩,
      sem_eq_zero hs fun c sm hsm => by
        obtain rfl := only_bar sm hsm
        exact (h c).2⟩)

end Cert.RingProof

end
-- ==== Proof.Ring.Value.lean ====
/-
# The result against the reference

The reference sums an array of four matrices along its first axis; device `c` holds matrix `c` of it and
ends with the sum's chunk `c` of columns.
-/
module

public import proofs.«01_k».proof.Proof.Ring.Sum
public import proofs.«01_k».proof.Proof.Ring.Run
public import proofs.«01_k».proof.Proof.Gen.ReferenceIdeal.Run
public import Idealize.ShloMosaic.Lib.Layout

@[expose] public section

set_option maxRecDepth 16384

noncomputable section

namespace Cert.RingProof

open Cert.KernelIdeal Cert.KernelIdeal.Gen
open Idealize.ShloMosaic
open Idealize.ShloMosaic.TcCoe

variable {F : FTy → Type} [FloatOps F]

/-- A reshape that drops a leading axis of length one, at a row and column. -/
theorem drop_lead (A : FVec F S1x512x2048 .f32) (a : Fin 512) (b : Fin 2048) :
    shapeCast S512x2048 A shapeCasts_S1x512x2048_S512x2048 (ix2 a b) = A (ix3 0 a b) := by
  pointwise

/-- The host reshape drops the leading axis of length one. -/
theorem xin_at (m : (ℓ : Loc nD τ sig) → Buf (Elt F) ℓ) (c : Dev nD) (a : Fin 512) (b : Fin 2048) :
    xin m c (ix2 a b) = m ((c.tc : Thread nD τ).loc main_arg0) (ix3 0 a b) := by
  have h : xin m c = shapeCast S512x2048 (m ((c.tc : Thread nD τ).loc main_arg0)) shapeCasts_S1x512x2048_S512x2048 := by
    show StableHlo.after hostOps0 (V₀ m c) main_v1 = _
    after_results
    rfl
  rw [h]
  exact drop_lead (F := F) _ a b

/-- The reference's result: the sum of the four matrices. -/
def total (A : (⟨3, ![4, 512, 2048]⟩ : Shape).Idx → Elt Ideal .f32) : (⟨2, ![512, 2048]⟩ : Shape).Idx → Elt Ideal .f32 :=
  Host.reduceAdd (F := Ideal) (φ := .f32) A (constant Cert.ReferenceIdeal.S_ .f32 0x00000000#32) Cert.ReferenceIdeal.Gen.reducesTo_S4x512x2048_S512x2048_d0 Cert.ReferenceIdeal.Gen.h_S_

/-- At a row and column it is the sum of the four entries there. -/
theorem total_at (A : FVec Ideal (⟨3, ![4, 512, 2048]⟩ : Shape) .f32) (a : Fin 512) (b : Fin 2048) :
    total A (ix2 a b) = ∑ e : Fin 4, (show EReal from A (ix3 e a b)) := by
  pointwise [total]

/-- From memories that hold the four matrices of `A`, device `c`'s result is chunk `c` of the columns of their sum. -/
theorem out_block (m : (ℓ : Loc nD τ sig) → Buf (Elt Ideal) ℓ) (A : FVec Ideal (⟨3, ![4, 512, 2048]⟩ : Shape) .f32)
    (hA : ∀ c : Dev nD, m ((c.tc : Thread nD τ).loc main_arg0) = Layout.block ⟨3, ![1, 512, 2048]⟩ ⟨3, ![4, 512, 2048]⟩ 0 4 c A) (c : Dev nD) :
    outV (xin m) c = Layout.block ⟨2, ![512, 512]⟩ ⟨2, ![512, 2048]⟩ 1 4 c (total A) := by
  have ht : Layout.Tiles ⟨2, ![512, 512]⟩ ⟨2, ![512, 2048]⟩ 1 4 := by decide
  have hx : Layout.Tiles ⟨3, ![1, 512, 2048]⟩ ⟨3, ![4, 512, 2048]⟩ 0 4 := by decide
  funext i
  have hi : ht.idx c i = inAt c i := by
    funext k
    apply Fin.ext
    match k with
    | ⟨0, _⟩ => exact (inAt_row c i).symm
    | ⟨1, _⟩ => exact (inAt_col c i).symm
  rw [outV_sum]
  show _ = total A (ht.idx c i)
  rw [hi, eq_ix2 (inAt c i)]
  refine Eq.trans ?_ (total_at A _ _).symm
  refine Finset.sum_congr rfl fun e _ => ?_
  refine (xin_at m e _ _).trans ?_
  rw [hA e]
  show A (hx.idx e _) = _
  congr 1
  funext k
  apply Fin.ext
  match k with
  | ⟨0, _⟩ => show e.val * 1 + 0 = e.val; omega
  | ⟨1, _⟩ => rfl
  | ⟨2, _⟩ => rfl

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Value
public import Idealize.ShloMosaic.Adequacy
public import Idealize.ShloMosaic.Init

@[expose] public section

noncomputable section

namespace Cert.Proof

open Idealize.ShloMosaic Idealize.SL.Sem

/-- Over any float values the program runs on every memory, keeps its argument and leaves every semaphore at zero. -/
theorem frame {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD, r.2.mem ((c.tc : Thread KernelIdeal.nD KernelIdeal.τ).loc KernelIdeal.main_arg0)
        = m ((c.tc : Thread KernelIdeal.nD KernelIdeal.τ).loc KernelIdeal.main_arg0)) ∧ r.2.sem = fun _ => 0) :=
  (θ_run KernelIdeal.defs _ _).mono (fun _ h => ⟨fun c => (h.1 c).1, h.2⟩) (RingProof.run_main m ρ)

/-- The two programs' kernels have the same text. -/
theorem bodies_eq : Kernel.defs₀ (F := Bits) = KernelIdeal.defs₀ (F := Bits) := by
  unfold Kernel.defs₀ KernelIdeal.defs₀
  refine congrArg (Defs.onTc (nD := Kernel.nD) (τ := Kernel.τ) (sig := Kernel.sig) (Val := Elt Bits) (Λ := Kernel.Λ₀)) ?_
  funext l a
  match l, a with
  | 0, (t, s) => rfl

/-- So have the programs. -/
theorem defs_eq : Kernel.defs (F := Bits) = KernelIdeal.defs (F := Bits) := congrArg (Pipeline.defs KernelIdeal.pcfgs) bodies_eq

/-- The program over bits does. -/
theorem frame_kernel : Cert.quiescent_Kernel := fun m ρ _ => by
  rw [defs_eq]
  exact frame (F := Bits) m ρ

/-- So does the program over exact numbers. -/
theorem frame_ideal : Cert.quiescent_KernelIdeal := fun m ρ _ => frame (F := Ideal) m ρ

/-- The reference runs and keeps its argument; it has no semaphore. -/
theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run m ρ)

/-- Over exact numbers, device `c` ends with chunk `c` of the columns of the reference's sum. -/
theorem sum_matches : Cert.algebraic_KernelIdeal_ReferenceIdeal := fun m ρ m' ρ' _ hA =>
  ⟨Cert.RingProof.total (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.RingProof.out_block m _ hA c), (h.1 c).1⟩) (Cert.RingProof.run_main (F := Ideal) m ρ),
    (θ_run Cert.ReferenceIdeal.defs _ _).mono (fun _ h => ⟨(h 0).1, (h 0).2⟩) (Cert.ReferenceIdeal.Value.run m' ρ')⟩

/-- Every claim. -/
theorem claim : Cert.Claim :=
  ⟨Cert.Kernel.Gen.facts, Cert.KernelIdeal.Gen.facts, Cert.ReferenceIdeal.Gen.facts,
    frame_kernel, frame_ideal, frame_reference, trivial, sum_matches⟩

end Cert.Proof

end
